-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S4x1024x1024 : Shape := ⟨3, ![4, 1024, 1024]⟩
abbrev S64 : Shape := ⟨1, ![64]⟩
abbrev S8 : Shape := ⟨1, ![8]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S64x1024 : Shape := ⟨2, ![64, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .local _ .vmem, ⟨0, _⟩ => ⟨S4x1024x1024, .f32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 272 → Bool
  | ⟨i, _⟩ => dmaSemScopedAt i

abbrev sig : RefSig :=
  (ofTc nBuf bufTy 1 272 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_34 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v38 : BitVec 32 := Scalar.muli v2 c8192_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_32 : BitVec 32 := 4096#32
  let v39 : BitVec 32 := Scalar.muli v5 c4096_i32_32
  let v40 : BitVec 32 := Scalar.addi v38 v39
  let v42 : BitVec 32 := Scalar.addi v40 c0_i32_34
  let c0_i32_40 : BitVec 32 := 0#32
  ![v42.toNat, 0]
def k0_off2 (d0 : Dev nD) (c0_i32_33 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v37 : BitVec 32 := Scalar.muli v5 c4096_i32
  let v41 : BitVec 32 := Scalar.addi v37 c0_i32_33
  let c0_i32_41 : BitVec 32 := 0#32
  ![v41.toNat, 0]
def k0_dev3 (d0 : Dev nD) : Nat :=
  let c0_i32_38 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_37 : BitVec 32 := 2#32
  let v43 : BitVec 32 := Scalar.muli v6 c2_i32_37
  let v44 : BitVec 32 := Scalar.addi c0_i32_38 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v45 : BitVec 32 := Scalar.muli v5 c1_i32_39
  let v46 : BitVec 32 := Scalar.addi v44 v45
  v46.toNat
def k0_dev4 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v55 : BitVec 32 := Scalar.muli v6 c2_i32_45
  let v56 : BitVec 32 := Scalar.addi c0_i32_46 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v57 : BitVec 32 := Scalar.muli v5 c1_i32_47
  let v58 : BitVec 32 := Scalar.addi v56 v57
  v58.toNat
def k0_dev5 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v67 : BitVec 32 := Scalar.muli v6 c2_i32_53
  let v68 : BitVec 32 := Scalar.addi c0_i32_54 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v69 : BitVec 32 := Scalar.muli v5 c1_i32_55
  let v70 : BitVec 32 := Scalar.addi v68 v69
  v70.toNat
def k0_dev6 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v79 : BitVec 32 := Scalar.muli v6 c2_i32_61
  let v80 : BitVec 32 := Scalar.addi c0_i32_62 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v81 : BitVec 32 := Scalar.muli v5 c1_i32_63
  let v82 : BitVec 32 := Scalar.addi v80 v81
  v82.toNat
def k0_dev7 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v91 : BitVec 32 := Scalar.muli v6 c2_i32_68
  let v92 : BitVec 32 := Scalar.addi c0_i32_69 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v93 : BitVec 32 := Scalar.muli v5 c1_i32_70
  let v94 : BitVec 32 := Scalar.addi v92 v93
  v94.toNat
def k0_dev8 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v103 : BitVec 32 := Scalar.muli v6 c2_i32_75
  let v104 : BitVec 32 := Scalar.addi c0_i32_76 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v105 : BitVec 32 := Scalar.muli v5 c1_i32_77
  let v106 : BitVec 32 := Scalar.addi v104 v105
  v106.toNat
def k0_dev9 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v115 : BitVec 32 := Scalar.muli v6 c2_i32_82
  let v116 : BitVec 32 := Scalar.addi c0_i32_83 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v117 : BitVec 32 := Scalar.muli v5 c1_i32_84
  let v118 : BitVec 32 := Scalar.addi v116 v117
  v118.toNat
def k0_dev10 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v127 : BitVec 32 := Scalar.muli v6 c2_i32_89
  let v128 : BitVec 32 := Scalar.addi c0_i32_90 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v129 : BitVec 32 := Scalar.muli v5 c1_i32_91
  let v130 : BitVec 32 := Scalar.addi v128 v129
  v130.toNat
def k0_dev11 (d0 : Dev nD) : Nat :=
  let c0_i32_97 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_96 : BitVec 32 := 2#32
  let v139 : BitVec 32 := Scalar.muli v6 c2_i32_96
  let v140 : BitVec 32 := Scalar.addi c0_i32_97 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v141 : BitVec 32 := Scalar.muli v5 c1_i32_98
  let v142 : BitVec 32 := Scalar.addi v140 v141
  v142.toNat
def k0_dev12 (d0 : Dev nD) : Nat :=
  let c0_i32_104 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_103 : BitVec 32 := 2#32
  let v151 : BitVec 32 := Scalar.muli v6 c2_i32_103
  let v152 : BitVec 32 := Scalar.addi c0_i32_104 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v153 : BitVec 32 := Scalar.muli v5 c1_i32_105
  let v154 : BitVec 32 := Scalar.addi v152 v153
  v154.toNat
def k0_dev13 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v163 : BitVec 32 := Scalar.muli v6 c2_i32_110
  let v164 : BitVec 32 := Scalar.addi c0_i32_111 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v165 : BitVec 32 := Scalar.muli v5 c1_i32_112
  let v166 : BitVec 32 := Scalar.addi v164 v165
  v166.toNat
def k0_dev14 (d0 : Dev nD) : Nat :=
  let c0_i32_118 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_117 : BitVec 32 := 2#32
  let v175 : BitVec 32 := Scalar.muli v6 c2_i32_117
  let v176 : BitVec 32 := Scalar.addi c0_i32_118 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_119 : BitVec 32 := 1#32
  let v177 : BitVec 32 := Scalar.muli v5 c1_i32_119
  let v178 : BitVec 32 := Scalar.addi v176 v177
  v178.toNat
def k0_dev15 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v187 : BitVec 32 := Scalar.muli v6 c2_i32_124
  let v188 : BitVec 32 := Scalar.addi c0_i32_125 v187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v189 : BitVec 32 := Scalar.muli v5 c1_i32_126
  let v190 : BitVec 32 := Scalar.addi v188 v189
  v190.toNat
def k0_dev16 (d0 : Dev nD) : Nat :=
  let c0_i32_132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_131 : BitVec 32 := 2#32
  let v199 : BitVec 32 := Scalar.muli v6 c2_i32_131
  let v200 : BitVec 32 := Scalar.addi c0_i32_132 v199
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v201 : BitVec 32 := Scalar.muli v5 c1_i32_133
  let v202 : BitVec 32 := Scalar.addi v200 v201
  v202.toNat
def k0_dev17 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v211 : BitVec 32 := Scalar.muli v6 c2_i32_138
  let v212 : BitVec 32 := Scalar.addi c0_i32_139 v211
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v213 : BitVec 32 := Scalar.muli v5 c1_i32_140
  let v214 : BitVec 32 := Scalar.addi v212 v213
  v214.toNat
def k0_dev18 (d0 : Dev nD) : Nat :=
  let c0_i32_146 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_145 : BitVec 32 := 2#32
  let v223 : BitVec 32 := Scalar.muli v6 c2_i32_145
  let v224 : BitVec 32 := Scalar.addi c0_i32_146 v223
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_147 : BitVec 32 := 1#32
  let v225 : BitVec 32 := Scalar.muli v5 c1_i32_147
  let v226 : BitVec 32 := Scalar.addi v224 v225
  v226.toNat
def k0_dev19 (d0 : Dev nD) : Nat :=
  let c0_i32_154 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_153 : BitVec 32 := 2#32
  let v235 : BitVec 32 := Scalar.muli v6 c2_i32_153
  let v236 : BitVec 32 := Scalar.addi c0_i32_154 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v237 : BitVec 32 := Scalar.muli v5 c1_i32_155
  let v238 : BitVec 32 := Scalar.addi v236 v237
  v238.toNat
def k0_dev20 (d0 : Dev nD) : Nat :=
  let c0_i32_161 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_160 : BitVec 32 := 2#32
  let v247 : BitVec 32 := Scalar.muli v6 c2_i32_160
  let v248 : BitVec 32 := Scalar.addi c0_i32_161 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_162 : BitVec 32 := 1#32
  let v249 : BitVec 32 := Scalar.muli v5 c1_i32_162
  let v250 : BitVec 32 := Scalar.addi v248 v249
  v250.toNat
def k0_dev21 (d0 : Dev nD) : Nat :=
  let c0_i32_168 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_167 : BitVec 32 := 2#32
  let v259 : BitVec 32 := Scalar.muli v6 c2_i32_167
  let v260 : BitVec 32 := Scalar.addi c0_i32_168 v259
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_169 : BitVec 32 := 1#32
  let v261 : BitVec 32 := Scalar.muli v5 c1_i32_169
  let v262 : BitVec 32 := Scalar.addi v260 v261
  v262.toNat
def k0_dev22 (d0 : Dev nD) : Nat :=
  let c0_i32_175 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_174 : BitVec 32 := 2#32
  let v271 : BitVec 32 := Scalar.muli v6 c2_i32_174
  let v272 : BitVec 32 := Scalar.addi c0_i32_175 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_176 : BitVec 32 := 1#32
  let v273 : BitVec 32 := Scalar.muli v5 c1_i32_176
  let v274 : BitVec 32 := Scalar.addi v272 v273
  v274.toNat
def k0_dev23 (d0 : Dev nD) : Nat :=
  let c0_i32_182 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_181 : BitVec 32 := 2#32
  let v283 : BitVec 32 := Scalar.muli v6 c2_i32_181
  let v284 : BitVec 32 := Scalar.addi c0_i32_182 v283
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v285 : BitVec 32 := Scalar.muli v5 c1_i32_183
  let v286 : BitVec 32 := Scalar.addi v284 v285
  v286.toNat
def k0_dev24 (d0 : Dev nD) : Nat :=
  let c0_i32_189 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_188 : BitVec 32 := 2#32
  let v295 : BitVec 32 := Scalar.muli v6 c2_i32_188
  let v296 : BitVec 32 := Scalar.addi c0_i32_189 v295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_190 : BitVec 32 := 1#32
  let v297 : BitVec 32 := Scalar.muli v5 c1_i32_190
  let v298 : BitVec 32 := Scalar.addi v296 v297
  v298.toNat
def k0_dev25 (d0 : Dev nD) : Nat :=
  let c0_i32_196 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_195 : BitVec 32 := 2#32
  let v307 : BitVec 32 := Scalar.muli v6 c2_i32_195
  let v308 : BitVec 32 := Scalar.addi c0_i32_196 v307
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_197 : BitVec 32 := 1#32
  let v309 : BitVec 32 := Scalar.muli v5 c1_i32_197
  let v310 : BitVec 32 := Scalar.addi v308 v309
  v310.toNat
def k0_dev26 (d0 : Dev nD) : Nat :=
  let c0_i32_203 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_202 : BitVec 32 := 2#32
  let v319 : BitVec 32 := Scalar.muli v6 c2_i32_202
  let v320 : BitVec 32 := Scalar.addi c0_i32_203 v319
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v321 : BitVec 32 := Scalar.muli v5 c1_i32_204
  let v322 : BitVec 32 := Scalar.addi v320 v321
  v322.toNat
def k0_dev27 (d0 : Dev nD) : Nat :=
  let c0_i32_210 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_209 : BitVec 32 := 2#32
  let v331 : BitVec 32 := Scalar.muli v6 c2_i32_209
  let v332 : BitVec 32 := Scalar.addi c0_i32_210 v331
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_211 : BitVec 32 := 1#32
  let v333 : BitVec 32 := Scalar.muli v5 c1_i32_211
  let v334 : BitVec 32 := Scalar.addi v332 v333
  v334.toNat
def k0_dev28 (d0 : Dev nD) : Nat :=
  let c0_i32_217 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_216 : BitVec 32 := 2#32
  let v343 : BitVec 32 := Scalar.muli v6 c2_i32_216
  let v344 : BitVec 32 := Scalar.addi c0_i32_217 v343
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_218 : BitVec 32 := 1#32
  let v345 : BitVec 32 := Scalar.muli v5 c1_i32_218
  let v346 : BitVec 32 := Scalar.addi v344 v345
  v346.toNat
def k0_dev29 (d0 : Dev nD) : Nat :=
  let c0_i32_224 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_223 : BitVec 32 := 2#32
  let v355 : BitVec 32 := Scalar.muli v6 c2_i32_223
  let v356 : BitVec 32 := Scalar.addi c0_i32_224 v355
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_225 : BitVec 32 := 1#32
  let v357 : BitVec 32 := Scalar.muli v5 c1_i32_225
  let v358 : BitVec 32 := Scalar.addi v356 v357
  v358.toNat
def k0_dev30 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v367 : BitVec 32 := Scalar.muli v6 c2_i32_230
  let v368 : BitVec 32 := Scalar.addi c0_i32_231 v367
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v369 : BitVec 32 := Scalar.muli v5 c1_i32_232
  let v370 : BitVec 32 := Scalar.addi v368 v369
  v370.toNat
def k0_dev31 (d0 : Dev nD) : Nat :=
  let c0_i32_238 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_237 : BitVec 32 := 2#32
  let v379 : BitVec 32 := Scalar.muli v6 c2_i32_237
  let v380 : BitVec 32 := Scalar.addi c0_i32_238 v379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_239 : BitVec 32 := 1#32
  let v381 : BitVec 32 := Scalar.muli v5 c1_i32_239
  let v382 : BitVec 32 := Scalar.addi v380 v381
  v382.toNat
def k0_dev32 (d0 : Dev nD) : Nat :=
  let c0_i32_245 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_244 : BitVec 32 := 2#32
  let v391 : BitVec 32 := Scalar.muli v6 c2_i32_244
  let v392 : BitVec 32 := Scalar.addi c0_i32_245 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_246 : BitVec 32 := 1#32
  let v393 : BitVec 32 := Scalar.muli v5 c1_i32_246
  let v394 : BitVec 32 := Scalar.addi v392 v393
  v394.toNat
def k0_dev33 (d0 : Dev nD) : Nat :=
  let c0_i32_252 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_251 : BitVec 32 := 2#32
  let v403 : BitVec 32 := Scalar.muli v6 c2_i32_251
  let v404 : BitVec 32 := Scalar.addi c0_i32_252 v403
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_253 : BitVec 32 := 1#32
  let v405 : BitVec 32 := Scalar.muli v5 c1_i32_253
  let v406 : BitVec 32 := Scalar.addi v404 v405
  v406.toNat
def k0_dev34 (d0 : Dev nD) : Nat :=
  let c0_i32_259 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_258 : BitVec 32 := 2#32
  let v415 : BitVec 32 := Scalar.muli v6 c2_i32_258
  let v416 : BitVec 32 := Scalar.addi c0_i32_259 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v417 : BitVec 32 := Scalar.muli v5 c1_i32_260
  let v418 : BitVec 32 := Scalar.addi v416 v417
  v418.toNat
def k0_dev35 (d0 : Dev nD) : Nat :=
  let c0_i32_267 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_266 : BitVec 32 := 2#32
  let v427 : BitVec 32 := Scalar.muli v6 c2_i32_266
  let v428 : BitVec 32 := Scalar.addi c0_i32_267 v427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v429 : BitVec 32 := Scalar.muli v5 c1_i32_268
  let v430 : BitVec 32 := Scalar.addi v428 v429
  v430.toNat
def k0_dev36 (d0 : Dev nD) : Nat :=
  let c0_i32_274 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_273 : BitVec 32 := 2#32
  let v439 : BitVec 32 := Scalar.muli v6 c2_i32_273
  let v440 : BitVec 32 := Scalar.addi c0_i32_274 v439
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v441 : BitVec 32 := Scalar.muli v5 c1_i32_275
  let v442 : BitVec 32 := Scalar.addi v440 v441
  v442.toNat
def k0_dev37 (d0 : Dev nD) : Nat :=
  let c0_i32_281 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_280 : BitVec 32 := 2#32
  let v451 : BitVec 32 := Scalar.muli v6 c2_i32_280
  let v452 : BitVec 32 := Scalar.addi c0_i32_281 v451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_282 : BitVec 32 := 1#32
  let v453 : BitVec 32 := Scalar.muli v5 c1_i32_282
  let v454 : BitVec 32 := Scalar.addi v452 v453
  v454.toNat
def k0_dev38 (d0 : Dev nD) : Nat :=
  let c0_i32_288 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_287 : BitVec 32 := 2#32
  let v463 : BitVec 32 := Scalar.muli v6 c2_i32_287
  let v464 : BitVec 32 := Scalar.addi c0_i32_288 v463
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v465 : BitVec 32 := Scalar.muli v5 c1_i32_289
  let v466 : BitVec 32 := Scalar.addi v464 v465
  v466.toNat
def k0_dev39 (d0 : Dev nD) : Nat :=
  let c0_i32_295 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_294 : BitVec 32 := 2#32
  let v475 : BitVec 32 := Scalar.muli v6 c2_i32_294
  let v476 : BitVec 32 := Scalar.addi c0_i32_295 v475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_296 : BitVec 32 := 1#32
  let v477 : BitVec 32 := Scalar.muli v5 c1_i32_296
  let v478 : BitVec 32 := Scalar.addi v476 v477
  v478.toNat
def k0_dev40 (d0 : Dev nD) : Nat :=
  let c0_i32_302 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_301 : BitVec 32 := 2#32
  let v487 : BitVec 32 := Scalar.muli v6 c2_i32_301
  let v488 : BitVec 32 := Scalar.addi c0_i32_302 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_303 : BitVec 32 := 1#32
  let v489 : BitVec 32 := Scalar.muli v5 c1_i32_303
  let v490 : BitVec 32 := Scalar.addi v488 v489
  v490.toNat
def k0_dev41 (d0 : Dev nD) : Nat :=
  let c0_i32_309 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_308 : BitVec 32 := 2#32
  let v499 : BitVec 32 := Scalar.muli v6 c2_i32_308
  let v500 : BitVec 32 := Scalar.addi c0_i32_309 v499
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_310 : BitVec 32 := 1#32
  let v501 : BitVec 32 := Scalar.muli v5 c1_i32_310
  let v502 : BitVec 32 := Scalar.addi v500 v501
  v502.toNat
def k0_dev42 (d0 : Dev nD) : Nat :=
  let c0_i32_316 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_315 : BitVec 32 := 2#32
  let v511 : BitVec 32 := Scalar.muli v6 c2_i32_315
  let v512 : BitVec 32 := Scalar.addi c0_i32_316 v511
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_317 : BitVec 32 := 1#32
  let v513 : BitVec 32 := Scalar.muli v5 c1_i32_317
  let v514 : BitVec 32 := Scalar.addi v512 v513
  v514.toNat
def k0_dev43 (d0 : Dev nD) : Nat :=
  let c0_i32_323 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_322 : BitVec 32 := 2#32
  let v523 : BitVec 32 := Scalar.muli v6 c2_i32_322
  let v524 : BitVec 32 := Scalar.addi c0_i32_323 v523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_324 : BitVec 32 := 1#32
  let v525 : BitVec 32 := Scalar.muli v5 c1_i32_324
  let v526 : BitVec 32 := Scalar.addi v524 v525
  v526.toNat
def k0_dev44 (d0 : Dev nD) : Nat :=
  let c0_i32_330 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_329 : BitVec 32 := 2#32
  let v535 : BitVec 32 := Scalar.muli v6 c2_i32_329
  let v536 : BitVec 32 := Scalar.addi c0_i32_330 v535
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_331 : BitVec 32 := 1#32
  let v537 : BitVec 32 := Scalar.muli v5 c1_i32_331
  let v538 : BitVec 32 := Scalar.addi v536 v537
  v538.toNat
def k0_dev45 (d0 : Dev nD) : Nat :=
  let c0_i32_337 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_336 : BitVec 32 := 2#32
  let v547 : BitVec 32 := Scalar.muli v6 c2_i32_336
  let v548 : BitVec 32 := Scalar.addi c0_i32_337 v547
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_338 : BitVec 32 := 1#32
  let v549 : BitVec 32 := Scalar.muli v5 c1_i32_338
  let v550 : BitVec 32 := Scalar.addi v548 v549
  v550.toNat
def k0_dev46 (d0 : Dev nD) : Nat :=
  let c0_i32_344 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_343 : BitVec 32 := 2#32
  let v559 : BitVec 32 := Scalar.muli v6 c2_i32_343
  let v560 : BitVec 32 := Scalar.addi c0_i32_344 v559
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_345 : BitVec 32 := 1#32
  let v561 : BitVec 32 := Scalar.muli v5 c1_i32_345
  let v562 : BitVec 32 := Scalar.addi v560 v561
  v562.toNat
def k0_dev47 (d0 : Dev nD) : Nat :=
  let c0_i32_351 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_350 : BitVec 32 := 2#32
  let v571 : BitVec 32 := Scalar.muli v6 c2_i32_350
  let v572 : BitVec 32 := Scalar.addi c0_i32_351 v571
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_352 : BitVec 32 := 1#32
  let v573 : BitVec 32 := Scalar.muli v5 c1_i32_352
  let v574 : BitVec 32 := Scalar.addi v572 v573
  v574.toNat
def k0_dev48 (d0 : Dev nD) : Nat :=
  let c0_i32_358 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_357 : BitVec 32 := 2#32
  let v583 : BitVec 32 := Scalar.muli v6 c2_i32_357
  let v584 : BitVec 32 := Scalar.addi c0_i32_358 v583
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v585 : BitVec 32 := Scalar.muli v5 c1_i32_359
  let v586 : BitVec 32 := Scalar.addi v584 v585
  v586.toNat
def k0_dev49 (d0 : Dev nD) : Nat :=
  let c0_i32_365 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_364 : BitVec 32 := 2#32
  let v595 : BitVec 32 := Scalar.muli v6 c2_i32_364
  let v596 : BitVec 32 := Scalar.addi c0_i32_365 v595
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_366 : BitVec 32 := 1#32
  let v597 : BitVec 32 := Scalar.muli v5 c1_i32_366
  let v598 : BitVec 32 := Scalar.addi v596 v597
  v598.toNat
def k0_dev50 (d0 : Dev nD) : Nat :=
  let c0_i32_372 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_371 : BitVec 32 := 2#32
  let v607 : BitVec 32 := Scalar.muli v6 c2_i32_371
  let v608 : BitVec 32 := Scalar.addi c0_i32_372 v607
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_373 : BitVec 32 := 1#32
  let v609 : BitVec 32 := Scalar.muli v5 c1_i32_373
  let v610 : BitVec 32 := Scalar.addi v608 v609
  v610.toNat
def k0_dev51 (d0 : Dev nD) : Nat :=
  let c0_i32_380 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_379 : BitVec 32 := 2#32
  let v619 : BitVec 32 := Scalar.muli v6 c2_i32_379
  let v620 : BitVec 32 := Scalar.addi c0_i32_380 v619
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v621 : BitVec 32 := Scalar.muli v5 c1_i32_381
  let v622 : BitVec 32 := Scalar.addi v620 v621
  v622.toNat
def k0_dev52 (d0 : Dev nD) : Nat :=
  let c0_i32_387 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_386 : BitVec 32 := 2#32
  let v631 : BitVec 32 := Scalar.muli v6 c2_i32_386
  let v632 : BitVec 32 := Scalar.addi c0_i32_387 v631
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_388 : BitVec 32 := 1#32
  let v633 : BitVec 32 := Scalar.muli v5 c1_i32_388
  let v634 : BitVec 32 := Scalar.addi v632 v633
  v634.toNat
def k0_dev53 (d0 : Dev nD) : Nat :=
  let c0_i32_394 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_393 : BitVec 32 := 2#32
  let v643 : BitVec 32 := Scalar.muli v6 c2_i32_393
  let v644 : BitVec 32 := Scalar.addi c0_i32_394 v643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_395 : BitVec 32 := 1#32
  let v645 : BitVec 32 := Scalar.muli v5 c1_i32_395
  let v646 : BitVec 32 := Scalar.addi v644 v645
  v646.toNat
def k0_dev54 (d0 : Dev nD) : Nat :=
  let c0_i32_401 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_400 : BitVec 32 := 2#32
  let v655 : BitVec 32 := Scalar.muli v6 c2_i32_400
  let v656 : BitVec 32 := Scalar.addi c0_i32_401 v655
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_402 : BitVec 32 := 1#32
  let v657 : BitVec 32 := Scalar.muli v5 c1_i32_402
  let v658 : BitVec 32 := Scalar.addi v656 v657
  v658.toNat
def k0_dev55 (d0 : Dev nD) : Nat :=
  let c0_i32_408 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_407 : BitVec 32 := 2#32
  let v667 : BitVec 32 := Scalar.muli v6 c2_i32_407
  let v668 : BitVec 32 := Scalar.addi c0_i32_408 v667
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v669 : BitVec 32 := Scalar.muli v5 c1_i32_409
  let v670 : BitVec 32 := Scalar.addi v668 v669
  v670.toNat
def k0_dev56 (d0 : Dev nD) : Nat :=
  let c0_i32_415 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_414 : BitVec 32 := 2#32
  let v679 : BitVec 32 := Scalar.muli v6 c2_i32_414
  let v680 : BitVec 32 := Scalar.addi c0_i32_415 v679
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_416 : BitVec 32 := 1#32
  let v681 : BitVec 32 := Scalar.muli v5 c1_i32_416
  let v682 : BitVec 32 := Scalar.addi v680 v681
  v682.toNat
def k0_dev57 (d0 : Dev nD) : Nat :=
  let c0_i32_422 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_421 : BitVec 32 := 2#32
  let v691 : BitVec 32 := Scalar.muli v6 c2_i32_421
  let v692 : BitVec 32 := Scalar.addi c0_i32_422 v691
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_423 : BitVec 32 := 1#32
  let v693 : BitVec 32 := Scalar.muli v5 c1_i32_423
  let v694 : BitVec 32 := Scalar.addi v692 v693
  v694.toNat
def k0_dev58 (d0 : Dev nD) : Nat :=
  let c0_i32_429 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_428 : BitVec 32 := 2#32
  let v703 : BitVec 32 := Scalar.muli v6 c2_i32_428
  let v704 : BitVec 32 := Scalar.addi c0_i32_429 v703
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_430 : BitVec 32 := 1#32
  let v705 : BitVec 32 := Scalar.muli v5 c1_i32_430
  let v706 : BitVec 32 := Scalar.addi v704 v705
  v706.toNat
def k0_dev59 (d0 : Dev nD) : Nat :=
  let c0_i32_436 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_435 : BitVec 32 := 2#32
  let v715 : BitVec 32 := Scalar.muli v6 c2_i32_435
  let v716 : BitVec 32 := Scalar.addi c0_i32_436 v715
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_437 : BitVec 32 := 1#32
  let v717 : BitVec 32 := Scalar.muli v5 c1_i32_437
  let v718 : BitVec 32 := Scalar.addi v716 v717
  v718.toNat
def k0_dev60 (d0 : Dev nD) : Nat :=
  let c0_i32_443 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_442 : BitVec 32 := 2#32
  let v727 : BitVec 32 := Scalar.muli v6 c2_i32_442
  let v728 : BitVec 32 := Scalar.addi c0_i32_443 v727
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_444 : BitVec 32 := 1#32
  let v729 : BitVec 32 := Scalar.muli v5 c1_i32_444
  let v730 : BitVec 32 := Scalar.addi v728 v729
  v730.toNat
def k0_dev61 (d0 : Dev nD) : Nat :=
  let c0_i32_450 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_449 : BitVec 32 := 2#32
  let v739 : BitVec 32 := Scalar.muli v6 c2_i32_449
  let v740 : BitVec 32 := Scalar.addi c0_i32_450 v739
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_451 : BitVec 32 := 1#32
  let v741 : BitVec 32 := Scalar.muli v5 c1_i32_451
  let v742 : BitVec 32 := Scalar.addi v740 v741
  v742.toNat
def k0_dev62 (d0 : Dev nD) : Nat :=
  let c0_i32_457 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_456 : BitVec 32 := 2#32
  let v751 : BitVec 32 := Scalar.muli v6 c2_i32_456
  let v752 : BitVec 32 := Scalar.addi c0_i32_457 v751
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_458 : BitVec 32 := 1#32
  let v753 : BitVec 32 := Scalar.muli v5 c1_i32_458
  let v754 : BitVec 32 := Scalar.addi v752 v753
  v754.toNat
def k0_dev63 (d0 : Dev nD) : Nat :=
  let c0_i32_464 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_463 : BitVec 32 := 2#32
  let v763 : BitVec 32 := Scalar.muli v6 c2_i32_463
  let v764 : BitVec 32 := Scalar.addi c0_i32_464 v763
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_465 : BitVec 32 := 1#32
  let v765 : BitVec 32 := Scalar.muli v5 c1_i32_465
  let v766 : BitVec 32 := Scalar.addi v764 v765
  v766.toNat
def k0_dev64 (d0 : Dev nD) : Nat :=
  let c0_i32_471 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_470 : BitVec 32 := 2#32
  let v775 : BitVec 32 := Scalar.muli v6 c2_i32_470
  let v776 : BitVec 32 := Scalar.addi c0_i32_471 v775
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_472 : BitVec 32 := 1#32
  let v777 : BitVec 32 := Scalar.muli v5 c1_i32_472
  let v778 : BitVec 32 := Scalar.addi v776 v777
  v778.toNat
def k0_dev65 (d0 : Dev nD) : Nat :=
  let c0_i32_478 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_477 : BitVec 32 := 2#32
  let v787 : BitVec 32 := Scalar.muli v6 c2_i32_477
  let v788 : BitVec 32 := Scalar.addi c0_i32_478 v787
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_479 : BitVec 32 := 1#32
  let v789 : BitVec 32 := Scalar.muli v5 c1_i32_479
  let v790 : BitVec 32 := Scalar.addi v788 v789
  v790.toNat
def k0_dev66 (d0 : Dev nD) : Nat :=
  let c0_i32_485 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_484 : BitVec 32 := 2#32
  let v799 : BitVec 32 := Scalar.muli v6 c2_i32_484
  let v800 : BitVec 32 := Scalar.addi c0_i32_485 v799
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_486 : BitVec 32 := 1#32
  let v801 : BitVec 32 := Scalar.muli v5 c1_i32_486
  let v802 : BitVec 32 := Scalar.addi v800 v801
  v802.toNat
def k0_off3 (d0 : Dev nD) (c0_i32_500 : BitVec 32) : Fin 2 → Nat :=
  let c1_i32_489 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v809 : BitVec 32 := Scalar.subi c1_i32_489 v2
  let c8192_i32_490 : BitVec 32 := 8192#32
  let v810 : BitVec 32 := Scalar.muli v809 c8192_i32_490
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_491 : BitVec 32 := 4096#32
  let v811 : BitVec 32 := Scalar.muli v5 c4096_i32_491
  let v812 : BitVec 32 := Scalar.addi v810 v811
  let v822 : BitVec 32 := Scalar.addi v812 c0_i32_500
  let c0_i32_506 : BitVec 32 := 0#32
  ![v822.toNat, 0]
def k0_dev67 (d0 : Dev nD) : Nat :=
  let c0_i32_504 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_503 : BitVec 32 := 2#32
  let v823 : BitVec 32 := Scalar.muli v2 c2_i32_503
  let v824 : BitVec 32 := Scalar.addi c0_i32_504 v823
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_505 : BitVec 32 := 1#32
  let v825 : BitVec 32 := Scalar.muli v7 c1_i32_505
  let v826 : BitVec 32 := Scalar.addi v824 v825
  v826.toNat
def k0_dev68 (d0 : Dev nD) : Nat :=
  let c0_i32_520 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_519 : BitVec 32 := 2#32
  let v843 : BitVec 32 := Scalar.muli v2 c2_i32_519
  let v844 : BitVec 32 := Scalar.addi c0_i32_520 v843
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_521 : BitVec 32 := 1#32
  let v845 : BitVec 32 := Scalar.muli v7 c1_i32_521
  let v846 : BitVec 32 := Scalar.addi v844 v845
  v846.toNat
def k0_dev69 (d0 : Dev nD) : Nat :=
  let c0_i32_536 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_535 : BitVec 32 := 2#32
  let v863 : BitVec 32 := Scalar.muli v2 c2_i32_535
  let v864 : BitVec 32 := Scalar.addi c0_i32_536 v863
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_537 : BitVec 32 := 1#32
  let v865 : BitVec 32 := Scalar.muli v7 c1_i32_537
  let v866 : BitVec 32 := Scalar.addi v864 v865
  v866.toNat
def k0_dev70 (d0 : Dev nD) : Nat :=
  let c0_i32_552 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_551 : BitVec 32 := 2#32
  let v883 : BitVec 32 := Scalar.muli v2 c2_i32_551
  let v884 : BitVec 32 := Scalar.addi c0_i32_552 v883
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_553 : BitVec 32 := 1#32
  let v885 : BitVec 32 := Scalar.muli v7 c1_i32_553
  let v886 : BitVec 32 := Scalar.addi v884 v885
  v886.toNat
def k0_dev71 (d0 : Dev nD) : Nat :=
  let c0_i32_568 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_567 : BitVec 32 := 2#32
  let v903 : BitVec 32 := Scalar.muli v2 c2_i32_567
  let v904 : BitVec 32 := Scalar.addi c0_i32_568 v903
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_569 : BitVec 32 := 1#32
  let v905 : BitVec 32 := Scalar.muli v7 c1_i32_569
  let v906 : BitVec 32 := Scalar.addi v904 v905
  v906.toNat
def k0_off4 (d0 : Dev nD) (c0_i32_579 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_578 : BitVec 32 := 8192#32
  let v918 : BitVec 32 := Scalar.muli v2 c8192_i32_578
  let v919 : BitVec 32 := Scalar.addi v918 c0_i32_579
  let c0_i32_582 : BitVec 32 := 0#32
  ![v919.toNat, 0]
def k0_dev72 (d0 : Dev nD) : Nat :=
  let c0_i32_597 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_596 : BitVec 32 := 2#32
  let v935 : BitVec 32 := Scalar.muli v2 c2_i32_596
  let v936 : BitVec 32 := Scalar.addi c0_i32_597 v935
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_598 : BitVec 32 := 1#32
  let v937 : BitVec 32 := Scalar.muli v7 c1_i32_598
  let v938 : BitVec 32 := Scalar.addi v936 v937
  v938.toNat
def k0_dev73 (d0 : Dev nD) : Nat :=
  let c0_i32_613 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_612 : BitVec 32 := 2#32
  let v955 : BitVec 32 := Scalar.muli v2 c2_i32_612
  let v956 : BitVec 32 := Scalar.addi c0_i32_613 v955
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_614 : BitVec 32 := 1#32
  let v957 : BitVec 32 := Scalar.muli v7 c1_i32_614
  let v958 : BitVec 32 := Scalar.addi v956 v957
  v958.toNat
def k0_dev74 (d0 : Dev nD) : Nat :=
  let c0_i32_629 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_628 : BitVec 32 := 2#32
  let v975 : BitVec 32 := Scalar.muli v2 c2_i32_628
  let v976 : BitVec 32 := Scalar.addi c0_i32_629 v975
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_630 : BitVec 32 := 1#32
  let v977 : BitVec 32 := Scalar.muli v7 c1_i32_630
  let v978 : BitVec 32 := Scalar.addi v976 v977
  v978.toNat
def k0_dev75 (d0 : Dev nD) : Nat :=
  let c0_i32_645 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_644 : BitVec 32 := 2#32
  let v995 : BitVec 32 := Scalar.muli v2 c2_i32_644
  let v996 : BitVec 32 := Scalar.addi c0_i32_645 v995
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_646 : BitVec 32 := 1#32
  let v997 : BitVec 32 := Scalar.muli v7 c1_i32_646
  let v998 : BitVec 32 := Scalar.addi v996 v997
  v998.toNat
def k0_dev76 (d0 : Dev nD) : Nat :=
  let c0_i32_661 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_660 : BitVec 32 := 2#32
  let v1015 : BitVec 32 := Scalar.muli v2 c2_i32_660
  let v1016 : BitVec 32 := Scalar.addi c0_i32_661 v1015
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_662 : BitVec 32 := 1#32
  let v1017 : BitVec 32 := Scalar.muli v7 c1_i32_662
  let v1018 : BitVec 32 := Scalar.addi v1016 v1017
  v1018.toNat
def k0_dev77 (d0 : Dev nD) : Nat :=
  let c0_i32_677 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_676 : BitVec 32 := 2#32
  let v1035 : BitVec 32 := Scalar.muli v2 c2_i32_676
  let v1036 : BitVec 32 := Scalar.addi c0_i32_677 v1035
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_678 : BitVec 32 := 1#32
  let v1037 : BitVec 32 := Scalar.muli v7 c1_i32_678
  let v1038 : BitVec 32 := Scalar.addi v1036 v1037
  v1038.toNat
def k0_dev78 (d0 : Dev nD) : Nat :=
  let c0_i32_693 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_692 : BitVec 32 := 2#32
  let v1055 : BitVec 32 := Scalar.muli v2 c2_i32_692
  let v1056 : BitVec 32 := Scalar.addi c0_i32_693 v1055
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_694 : BitVec 32 := 1#32
  let v1057 : BitVec 32 := Scalar.muli v7 c1_i32_694
  let v1058 : BitVec 32 := Scalar.addi v1056 v1057
  v1058.toNat
def k0_dev79 (d0 : Dev nD) : Nat :=
  let c0_i32_733 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_732 : BitVec 32 := 2#32
  let v1097 : BitVec 32 := Scalar.muli v2 c2_i32_732
  let v1098 : BitVec 32 := Scalar.addi c0_i32_733 v1097
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_734 : BitVec 32 := 1#32
  let v1099 : BitVec 32 := Scalar.muli v7 c1_i32_734
  let v1100 : BitVec 32 := Scalar.addi v1098 v1099
  v1100.toNat
def k0_dev80 (d0 : Dev nD) : Nat :=
  let c0_i32_749 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_748 : BitVec 32 := 2#32
  let v1117 : BitVec 32 := Scalar.muli v2 c2_i32_748
  let v1118 : BitVec 32 := Scalar.addi c0_i32_749 v1117
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_750 : BitVec 32 := 1#32
  let v1119 : BitVec 32 := Scalar.muli v7 c1_i32_750
  let v1120 : BitVec 32 := Scalar.addi v1118 v1119
  v1120.toNat
def k0_dev81 (d0 : Dev nD) : Nat :=
  let c0_i32_765 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_764 : BitVec 32 := 2#32
  let v1137 : BitVec 32 := Scalar.muli v2 c2_i32_764
  let v1138 : BitVec 32 := Scalar.addi c0_i32_765 v1137
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_766 : BitVec 32 := 1#32
  let v1139 : BitVec 32 := Scalar.muli v7 c1_i32_766
  let v1140 : BitVec 32 := Scalar.addi v1138 v1139
  v1140.toNat
def k0_dev82 (d0 : Dev nD) : Nat :=
  let c0_i32_781 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_780 : BitVec 32 := 2#32
  let v1157 : BitVec 32 := Scalar.muli v2 c2_i32_780
  let v1158 : BitVec 32 := Scalar.addi c0_i32_781 v1157
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_782 : BitVec 32 := 1#32
  let v1159 : BitVec 32 := Scalar.muli v7 c1_i32_782
  let v1160 : BitVec 32 := Scalar.addi v1158 v1159
  v1160.toNat
def k0_dev83 (d0 : Dev nD) : Nat :=
  let c0_i32_797 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_796 : BitVec 32 := 2#32
  let v1177 : BitVec 32 := Scalar.muli v2 c2_i32_796
  let v1178 : BitVec 32 := Scalar.addi c0_i32_797 v1177
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_798 : BitVec 32 := 1#32
  let v1179 : BitVec 32 := Scalar.muli v7 c1_i32_798
  let v1180 : BitVec 32 := Scalar.addi v1178 v1179
  v1180.toNat
def k0_dev84 (d0 : Dev nD) : Nat :=
  let c0_i32_813 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_812 : BitVec 32 := 2#32
  let v1197 : BitVec 32 := Scalar.muli v2 c2_i32_812
  let v1198 : BitVec 32 := Scalar.addi c0_i32_813 v1197
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_814 : BitVec 32 := 1#32
  let v1199 : BitVec 32 := Scalar.muli v7 c1_i32_814
  let v1200 : BitVec 32 := Scalar.addi v1198 v1199
  v1200.toNat
def k0_dev85 (d0 : Dev nD) : Nat :=
  let c0_i32_829 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_828 : BitVec 32 := 2#32
  let v1217 : BitVec 32 := Scalar.muli v2 c2_i32_828
  let v1218 : BitVec 32 := Scalar.addi c0_i32_829 v1217
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_830 : BitVec 32 := 1#32
  let v1219 : BitVec 32 := Scalar.muli v7 c1_i32_830
  let v1220 : BitVec 32 := Scalar.addi v1218 v1219
  v1220.toNat
def k0_dev86 (d0 : Dev nD) : Nat :=
  let c0_i32_868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_867 : BitVec 32 := 2#32
  let v1259 : BitVec 32 := Scalar.muli v2 c2_i32_867
  let v1260 : BitVec 32 := Scalar.addi c0_i32_868 v1259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_869 : BitVec 32 := 1#32
  let v1261 : BitVec 32 := Scalar.muli v7 c1_i32_869
  let v1262 : BitVec 32 := Scalar.addi v1260 v1261
  v1262.toNat
def k0_dev87 (d0 : Dev nD) : Nat :=
  let c0_i32_884 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_883 : BitVec 32 := 2#32
  let v1279 : BitVec 32 := Scalar.muli v2 c2_i32_883
  let v1280 : BitVec 32 := Scalar.addi c0_i32_884 v1279
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_885 : BitVec 32 := 1#32
  let v1281 : BitVec 32 := Scalar.muli v7 c1_i32_885
  let v1282 : BitVec 32 := Scalar.addi v1280 v1281
  v1282.toNat
def k0_dev88 (d0 : Dev nD) : Nat :=
  let c0_i32_900 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_899 : BitVec 32 := 2#32
  let v1299 : BitVec 32 := Scalar.muli v2 c2_i32_899
  let v1300 : BitVec 32 := Scalar.addi c0_i32_900 v1299
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_901 : BitVec 32 := 1#32
  let v1301 : BitVec 32 := Scalar.muli v7 c1_i32_901
  let v1302 : BitVec 32 := Scalar.addi v1300 v1301
  v1302.toNat
def k0_dev89 (d0 : Dev nD) : Nat :=
  let c0_i32_916 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_915 : BitVec 32 := 2#32
  let v1319 : BitVec 32 := Scalar.muli v2 c2_i32_915
  let v1320 : BitVec 32 := Scalar.addi c0_i32_916 v1319
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_917 : BitVec 32 := 1#32
  let v1321 : BitVec 32 := Scalar.muli v7 c1_i32_917
  let v1322 : BitVec 32 := Scalar.addi v1320 v1321
  v1322.toNat
def k0_dev90 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1339 : BitVec 32 := Scalar.muli v2 c2_i32_931
  let v1340 : BitVec 32 := Scalar.addi c0_i32_932 v1339
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1341 : BitVec 32 := Scalar.muli v7 c1_i32_933
  let v1342 : BitVec 32 := Scalar.addi v1340 v1341
  v1342.toNat
def k0_dev91 (d0 : Dev nD) : Nat :=
  let c0_i32_948 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_947 : BitVec 32 := 2#32
  let v1359 : BitVec 32 := Scalar.muli v2 c2_i32_947
  let v1360 : BitVec 32 := Scalar.addi c0_i32_948 v1359
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_949 : BitVec 32 := 1#32
  let v1361 : BitVec 32 := Scalar.muli v7 c1_i32_949
  let v1362 : BitVec 32 := Scalar.addi v1360 v1361
  v1362.toNat
def k0_dev92 (d0 : Dev nD) : Nat :=
  let c0_i32_964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_963 : BitVec 32 := 2#32
  let v1379 : BitVec 32 := Scalar.muli v2 c2_i32_963
  let v1380 : BitVec 32 := Scalar.addi c0_i32_964 v1379
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_965 : BitVec 32 := 1#32
  let v1381 : BitVec 32 := Scalar.muli v7 c1_i32_965
  let v1382 : BitVec 32 := Scalar.addi v1380 v1381
  v1382.toNat
def k0_dev93 (d0 : Dev nD) : Nat :=
  let c0_i32_1003 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1002 : BitVec 32 := 2#32
  let v1421 : BitVec 32 := Scalar.muli v2 c2_i32_1002
  let v1422 : BitVec 32 := Scalar.addi c0_i32_1003 v1421
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1004 : BitVec 32 := 1#32
  let v1423 : BitVec 32 := Scalar.muli v7 c1_i32_1004
  let v1424 : BitVec 32 := Scalar.addi v1422 v1423
  v1424.toNat
def k0_dev94 (d0 : Dev nD) : Nat :=
  let c0_i32_1019 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1018 : BitVec 32 := 2#32
  let v1441 : BitVec 32 := Scalar.muli v2 c2_i32_1018
  let v1442 : BitVec 32 := Scalar.addi c0_i32_1019 v1441
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1020 : BitVec 32 := 1#32
  let v1443 : BitVec 32 := Scalar.muli v7 c1_i32_1020
  let v1444 : BitVec 32 := Scalar.addi v1442 v1443
  v1444.toNat
def k0_dev95 (d0 : Dev nD) : Nat :=
  let c0_i32_1035 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1034 : BitVec 32 := 2#32
  let v1461 : BitVec 32 := Scalar.muli v2 c2_i32_1034
  let v1462 : BitVec 32 := Scalar.addi c0_i32_1035 v1461
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1036 : BitVec 32 := 1#32
  let v1463 : BitVec 32 := Scalar.muli v7 c1_i32_1036
  let v1464 : BitVec 32 := Scalar.addi v1462 v1463
  v1464.toNat
def k0_dev96 (d0 : Dev nD) : Nat :=
  let c0_i32_1051 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1050 : BitVec 32 := 2#32
  let v1481 : BitVec 32 := Scalar.muli v2 c2_i32_1050
  let v1482 : BitVec 32 := Scalar.addi c0_i32_1051 v1481
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1052 : BitVec 32 := 1#32
  let v1483 : BitVec 32 := Scalar.muli v7 c1_i32_1052
  let v1484 : BitVec 32 := Scalar.addi v1482 v1483
  v1484.toNat
def k0_dev97 (d0 : Dev nD) : Nat :=
  let c0_i32_1067 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1066 : BitVec 32 := 2#32
  let v1501 : BitVec 32 := Scalar.muli v2 c2_i32_1066
  let v1502 : BitVec 32 := Scalar.addi c0_i32_1067 v1501
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1068 : BitVec 32 := 1#32
  let v1503 : BitVec 32 := Scalar.muli v7 c1_i32_1068
  let v1504 : BitVec 32 := Scalar.addi v1502 v1503
  v1504.toNat
def k0_dev98 (d0 : Dev nD) : Nat :=
  let c0_i32_1083 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1082 : BitVec 32 := 2#32
  let v1521 : BitVec 32 := Scalar.muli v2 c2_i32_1082
  let v1522 : BitVec 32 := Scalar.addi c0_i32_1083 v1521
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1084 : BitVec 32 := 1#32
  let v1523 : BitVec 32 := Scalar.muli v7 c1_i32_1084
  let v1524 : BitVec 32 := Scalar.addi v1522 v1523
  v1524.toNat
def k0_dev99 (d0 : Dev nD) : Nat :=
  let c0_i32_1099 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1098 : BitVec 32 := 2#32
  let v1541 : BitVec 32 := Scalar.muli v2 c2_i32_1098
  let v1542 : BitVec 32 := Scalar.addi c0_i32_1099 v1541
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1100 : BitVec 32 := 1#32
  let v1543 : BitVec 32 := Scalar.muli v7 c1_i32_1100
  let v1544 : BitVec 32 := Scalar.addi v1542 v1543
  v1544.toNat
def k0_dev100 (d0 : Dev nD) : Nat :=
  let c0_i32_1138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1137 : BitVec 32 := 2#32
  let v1583 : BitVec 32 := Scalar.muli v2 c2_i32_1137
  let v1584 : BitVec 32 := Scalar.addi c0_i32_1138 v1583
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1139 : BitVec 32 := 1#32
  let v1585 : BitVec 32 := Scalar.muli v7 c1_i32_1139
  let v1586 : BitVec 32 := Scalar.addi v1584 v1585
  v1586.toNat
def k0_dev101 (d0 : Dev nD) : Nat :=
  let c0_i32_1154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1153 : BitVec 32 := 2#32
  let v1603 : BitVec 32 := Scalar.muli v2 c2_i32_1153
  let v1604 : BitVec 32 := Scalar.addi c0_i32_1154 v1603
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1155 : BitVec 32 := 1#32
  let v1605 : BitVec 32 := Scalar.muli v7 c1_i32_1155
  let v1606 : BitVec 32 := Scalar.addi v1604 v1605
  v1606.toNat
def k0_dev102 (d0 : Dev nD) : Nat :=
  let c0_i32_1170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1169 : BitVec 32 := 2#32
  let v1623 : BitVec 32 := Scalar.muli v2 c2_i32_1169
  let v1624 : BitVec 32 := Scalar.addi c0_i32_1170 v1623
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1171 : BitVec 32 := 1#32
  let v1625 : BitVec 32 := Scalar.muli v7 c1_i32_1171
  let v1626 : BitVec 32 := Scalar.addi v1624 v1625
  v1626.toNat
def k0_dev103 (d0 : Dev nD) : Nat :=
  let c0_i32_1186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1185 : BitVec 32 := 2#32
  let v1643 : BitVec 32 := Scalar.muli v2 c2_i32_1185
  let v1644 : BitVec 32 := Scalar.addi c0_i32_1186 v1643
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1187 : BitVec 32 := 1#32
  let v1645 : BitVec 32 := Scalar.muli v7 c1_i32_1187
  let v1646 : BitVec 32 := Scalar.addi v1644 v1645
  v1646.toNat
def k0_dev104 (d0 : Dev nD) : Nat :=
  let c0_i32_1202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1201 : BitVec 32 := 2#32
  let v1663 : BitVec 32 := Scalar.muli v2 c2_i32_1201
  let v1664 : BitVec 32 := Scalar.addi c0_i32_1202 v1663
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1203 : BitVec 32 := 1#32
  let v1665 : BitVec 32 := Scalar.muli v7 c1_i32_1203
  let v1666 : BitVec 32 := Scalar.addi v1664 v1665
  v1666.toNat
def k0_dev105 (d0 : Dev nD) : Nat :=
  let c0_i32_1218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1217 : BitVec 32 := 2#32
  let v1683 : BitVec 32 := Scalar.muli v2 c2_i32_1217
  let v1684 : BitVec 32 := Scalar.addi c0_i32_1218 v1683
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1219 : BitVec 32 := 1#32
  let v1685 : BitVec 32 := Scalar.muli v7 c1_i32_1219
  let v1686 : BitVec 32 := Scalar.addi v1684 v1685
  v1686.toNat
def k0_dev106 (d0 : Dev nD) : Nat :=
  let c0_i32_1234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1233 : BitVec 32 := 2#32
  let v1703 : BitVec 32 := Scalar.muli v2 c2_i32_1233
  let v1704 : BitVec 32 := Scalar.addi c0_i32_1234 v1703
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1235 : BitVec 32 := 1#32
  let v1705 : BitVec 32 := Scalar.muli v7 c1_i32_1235
  let v1706 : BitVec 32 := Scalar.addi v1704 v1705
  v1706.toNat
def k0_dev107 (d0 : Dev nD) : Nat :=
  let c0_i32_1263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1262 : BitVec 32 := 2#32
  let v1735 : BitVec 32 := Scalar.muli v2 c2_i32_1262
  let v1736 : BitVec 32 := Scalar.addi c0_i32_1263 v1735
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1264 : BitVec 32 := 1#32
  let v1737 : BitVec 32 := Scalar.muli v7 c1_i32_1264
  let v1738 : BitVec 32 := Scalar.addi v1736 v1737
  v1738.toNat
def k0_dev108 (d0 : Dev nD) : Nat :=
  let c0_i32_1279 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1278 : BitVec 32 := 2#32
  let v1755 : BitVec 32 := Scalar.muli v2 c2_i32_1278
  let v1756 : BitVec 32 := Scalar.addi c0_i32_1279 v1755
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1280 : BitVec 32 := 1#32
  let v1757 : BitVec 32 := Scalar.muli v7 c1_i32_1280
  let v1758 : BitVec 32 := Scalar.addi v1756 v1757
  v1758.toNat
def k0_dev109 (d0 : Dev nD) : Nat :=
  let c0_i32_1295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1294 : BitVec 32 := 2#32
  let v1775 : BitVec 32 := Scalar.muli v2 c2_i32_1294
  let v1776 : BitVec 32 := Scalar.addi c0_i32_1295 v1775
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1296 : BitVec 32 := 1#32
  let v1777 : BitVec 32 := Scalar.muli v7 c1_i32_1296
  let v1778 : BitVec 32 := Scalar.addi v1776 v1777
  v1778.toNat
def k0_dev110 (d0 : Dev nD) : Nat :=
  let c0_i32_1311 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1310 : BitVec 32 := 2#32
  let v1795 : BitVec 32 := Scalar.muli v2 c2_i32_1310
  let v1796 : BitVec 32 := Scalar.addi c0_i32_1311 v1795
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1312 : BitVec 32 := 1#32
  let v1797 : BitVec 32 := Scalar.muli v7 c1_i32_1312
  let v1798 : BitVec 32 := Scalar.addi v1796 v1797
  v1798.toNat
def k0_dev111 (d0 : Dev nD) : Nat :=
  let c0_i32_1327 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1326 : BitVec 32 := 2#32
  let v1815 : BitVec 32 := Scalar.muli v2 c2_i32_1326
  let v1816 : BitVec 32 := Scalar.addi c0_i32_1327 v1815
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1328 : BitVec 32 := 1#32
  let v1817 : BitVec 32 := Scalar.muli v7 c1_i32_1328
  let v1818 : BitVec 32 := Scalar.addi v1816 v1817
  v1818.toNat
def k0_dev112 (d0 : Dev nD) : Nat :=
  let c0_i32_1343 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1342 : BitVec 32 := 2#32
  let v1835 : BitVec 32 := Scalar.muli v2 c2_i32_1342
  let v1836 : BitVec 32 := Scalar.addi c0_i32_1343 v1835
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1344 : BitVec 32 := 1#32
  let v1837 : BitVec 32 := Scalar.muli v7 c1_i32_1344
  let v1838 : BitVec 32 := Scalar.addi v1836 v1837
  v1838.toNat
def k0_dev113 (d0 : Dev nD) : Nat :=
  let c0_i32_1359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1358 : BitVec 32 := 2#32
  let v1855 : BitVec 32 := Scalar.muli v2 c2_i32_1358
  let v1856 : BitVec 32 := Scalar.addi c0_i32_1359 v1855
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1360 : BitVec 32 := 1#32
  let v1857 : BitVec 32 := Scalar.muli v7 c1_i32_1360
  let v1858 : BitVec 32 := Scalar.addi v1856 v1857
  v1858.toNat
def k0_dev114 (d0 : Dev nD) : Nat :=
  let c0_i32_1388 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1387 : BitVec 32 := 2#32
  let v1887 : BitVec 32 := Scalar.muli v2 c2_i32_1387
  let v1888 : BitVec 32 := Scalar.addi c0_i32_1388 v1887
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1389 : BitVec 32 := 1#32
  let v1889 : BitVec 32 := Scalar.muli v7 c1_i32_1389
  let v1890 : BitVec 32 := Scalar.addi v1888 v1889
  v1890.toNat
def k0_dev115 (d0 : Dev nD) : Nat :=
  let c0_i32_1404 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1403 : BitVec 32 := 2#32
  let v1907 : BitVec 32 := Scalar.muli v2 c2_i32_1403
  let v1908 : BitVec 32 := Scalar.addi c0_i32_1404 v1907
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1405 : BitVec 32 := 1#32
  let v1909 : BitVec 32 := Scalar.muli v7 c1_i32_1405
  let v1910 : BitVec 32 := Scalar.addi v1908 v1909
  v1910.toNat
def k0_dev116 (d0 : Dev nD) : Nat :=
  let c0_i32_1420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1419 : BitVec 32 := 2#32
  let v1927 : BitVec 32 := Scalar.muli v2 c2_i32_1419
  let v1928 : BitVec 32 := Scalar.addi c0_i32_1420 v1927
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1421 : BitVec 32 := 1#32
  let v1929 : BitVec 32 := Scalar.muli v7 c1_i32_1421
  let v1930 : BitVec 32 := Scalar.addi v1928 v1929
  v1930.toNat
def k0_dev117 (d0 : Dev nD) : Nat :=
  let c0_i32_1436 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1435 : BitVec 32 := 2#32
  let v1947 : BitVec 32 := Scalar.muli v2 c2_i32_1435
  let v1948 : BitVec 32 := Scalar.addi c0_i32_1436 v1947
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1437 : BitVec 32 := 1#32
  let v1949 : BitVec 32 := Scalar.muli v7 c1_i32_1437
  let v1950 : BitVec 32 := Scalar.addi v1948 v1949
  v1950.toNat
def k0_dev118 (d0 : Dev nD) : Nat :=
  let c0_i32_1452 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1451 : BitVec 32 := 2#32
  let v1967 : BitVec 32 := Scalar.muli v2 c2_i32_1451
  let v1968 : BitVec 32 := Scalar.addi c0_i32_1452 v1967
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1453 : BitVec 32 := 1#32
  let v1969 : BitVec 32 := Scalar.muli v7 c1_i32_1453
  let v1970 : BitVec 32 := Scalar.addi v1968 v1969
  v1970.toNat
def k0_dev119 (d0 : Dev nD) : Nat :=
  let c0_i32_1468 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1467 : BitVec 32 := 2#32
  let v1987 : BitVec 32 := Scalar.muli v2 c2_i32_1467
  let v1988 : BitVec 32 := Scalar.addi c0_i32_1468 v1987
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1469 : BitVec 32 := 1#32
  let v1989 : BitVec 32 := Scalar.muli v7 c1_i32_1469
  let v1990 : BitVec 32 := Scalar.addi v1988 v1989
  v1990.toNat
def k0_dev120 (d0 : Dev nD) : Nat :=
  let c0_i32_1484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1483 : BitVec 32 := 2#32
  let v2007 : BitVec 32 := Scalar.muli v2 c2_i32_1483
  let v2008 : BitVec 32 := Scalar.addi c0_i32_1484 v2007
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1485 : BitVec 32 := 1#32
  let v2009 : BitVec 32 := Scalar.muli v7 c1_i32_1485
  let v2010 : BitVec 32 := Scalar.addi v2008 v2009
  v2010.toNat
def k0_dev121 (d0 : Dev nD) : Nat :=
  let c0_i32_1513 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1512 : BitVec 32 := 2#32
  let v2039 : BitVec 32 := Scalar.muli v2 c2_i32_1512
  let v2040 : BitVec 32 := Scalar.addi c0_i32_1513 v2039
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1514 : BitVec 32 := 1#32
  let v2041 : BitVec 32 := Scalar.muli v7 c1_i32_1514
  let v2042 : BitVec 32 := Scalar.addi v2040 v2041
  v2042.toNat
def k0_dev122 (d0 : Dev nD) : Nat :=
  let c0_i32_1529 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1528 : BitVec 32 := 2#32
  let v2059 : BitVec 32 := Scalar.muli v2 c2_i32_1528
  let v2060 : BitVec 32 := Scalar.addi c0_i32_1529 v2059
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1530 : BitVec 32 := 1#32
  let v2061 : BitVec 32 := Scalar.muli v7 c1_i32_1530
  let v2062 : BitVec 32 := Scalar.addi v2060 v2061
  v2062.toNat
def k0_dev123 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2079 : BitVec 32 := Scalar.muli v2 c2_i32_1544
  let v2080 : BitVec 32 := Scalar.addi c0_i32_1545 v2079
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1546 : BitVec 32 := 1#32
  let v2081 : BitVec 32 := Scalar.muli v7 c1_i32_1546
  let v2082 : BitVec 32 := Scalar.addi v2080 v2081
  v2082.toNat
def k0_dev124 (d0 : Dev nD) : Nat :=
  let c0_i32_1561 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1560 : BitVec 32 := 2#32
  let v2099 : BitVec 32 := Scalar.muli v2 c2_i32_1560
  let v2100 : BitVec 32 := Scalar.addi c0_i32_1561 v2099
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1562 : BitVec 32 := 1#32
  let v2101 : BitVec 32 := Scalar.muli v7 c1_i32_1562
  let v2102 : BitVec 32 := Scalar.addi v2100 v2101
  v2102.toNat
def k0_dev125 (d0 : Dev nD) : Nat :=
  let c0_i32_1577 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1576 : BitVec 32 := 2#32
  let v2119 : BitVec 32 := Scalar.muli v2 c2_i32_1576
  let v2120 : BitVec 32 := Scalar.addi c0_i32_1577 v2119
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1578 : BitVec 32 := 1#32
  let v2121 : BitVec 32 := Scalar.muli v7 c1_i32_1578
  let v2122 : BitVec 32 := Scalar.addi v2120 v2121
  v2122.toNat
def k0_dev126 (d0 : Dev nD) : Nat :=
  let c0_i32_1593 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1592 : BitVec 32 := 2#32
  let v2139 : BitVec 32 := Scalar.muli v2 c2_i32_1592
  let v2140 : BitVec 32 := Scalar.addi c0_i32_1593 v2139
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1594 : BitVec 32 := 1#32
  let v2141 : BitVec 32 := Scalar.muli v7 c1_i32_1594
  let v2142 : BitVec 32 := Scalar.addi v2140 v2141
  v2142.toNat
def k0_dev127 (d0 : Dev nD) : Nat :=
  let c0_i32_1609 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1608 : BitVec 32 := 2#32
  let v2159 : BitVec 32 := Scalar.muli v2 c2_i32_1608
  let v2160 : BitVec 32 := Scalar.addi c0_i32_1609 v2159
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1610 : BitVec 32 := 1#32
  let v2161 : BitVec 32 := Scalar.muli v7 c1_i32_1610
  let v2162 : BitVec 32 := Scalar.addi v2160 v2161
  v2162.toNat
def k0_dev128 (d0 : Dev nD) : Nat :=
  let c0_i32_1625 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1624 : BitVec 32 := 2#32
  let v2179 : BitVec 32 := Scalar.muli v2 c2_i32_1624
  let v2180 : BitVec 32 := Scalar.addi c0_i32_1625 v2179
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1626 : BitVec 32 := 1#32
  let v2181 : BitVec 32 := Scalar.muli v7 c1_i32_1626
  let v2182 : BitVec 32 := Scalar.addi v2180 v2181
  v2182.toNat
def k0_dev129 (d0 : Dev nD) : Nat :=
  let c0_i32_1641 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1640 : BitVec 32 := 2#32
  let v2199 : BitVec 32 := Scalar.muli v2 c2_i32_1640
  let v2200 : BitVec 32 := Scalar.addi c0_i32_1641 v2199
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1642 : BitVec 32 := 1#32
  let v2201 : BitVec 32 := Scalar.muli v7 c1_i32_1642
  let v2202 : BitVec 32 := Scalar.addi v2200 v2201
  v2202.toNat
def k0_dev130 (d0 : Dev nD) : Nat :=
  let c0_i32_1657 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1656 : BitVec 32 := 2#32
  let v2219 : BitVec 32 := Scalar.muli v2 c2_i32_1656
  let v2220 : BitVec 32 := Scalar.addi c0_i32_1657 v2219
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1658 : BitVec 32 := 1#32
  let v2221 : BitVec 32 := Scalar.muli v7 c1_i32_1658
  let v2222 : BitVec 32 := Scalar.addi v2220 v2221
  v2222.toNat
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Identity.lean ====
/-
# The reference's run

The reference returns its argument: it has no operation, and what its one device holds stays as it was.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Gather.Identity

open Cert.ReferenceIdeal Cert.ReferenceIdeal.Gen
open Idealize.ShloMosaic Idealize.ShloMosaic.TcCoe Idealize.SL.Sem

/-- Every execution of the reference ends, with its argument and the semaphores as they were. -/
theorem run (m : (ℓ : Loc nD τ sig) → Buf (Elt Ideal) ℓ) (ρ : Dev nD → PrngReg) :
    θ_run defs (onTc (τ := τ) (main (F := Ideal))) ⟨m, fun _ => 0, ρ⟩
      fun r => (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Gather.Identity

end
-- ==== Proof.Steps.lean ====
/-
# The kernel's body as a list of steps

The printed body is straight-line: it reads its device id, signals the barrier of its two neighbours, waits for
both, and then performs 416 transfers and waits. Here each kind of transfer or wait is one constructor of `Step`,
with the chunk it acts on as its index, and the body is the run of one list of them (`body_eq`).
-/
module

public import proofs.«01_k».proof.Proof.Gen.KernelIdeal
public import Idealize.ShloMosaic.Lib.Pipeline.Regions

@[expose] public section

noncomputable section

namespace Cert.Gather

open Cert.KernelIdeal Cert.KernelIdeal.Gen
open Idealize.ShloMosaic Idealize.SL.Sem

/-- One transfer or wait of the body. `load j` / `store j` copy the `j`-th 1024-row chunk of the device's own block
    into its stage slot and from there to the result; `sendX k` sends the `k`-th 64-row chunk of the device's half to
    the neighbour along the first mesh axis; `sendY k` passes the chunk received from that neighbour on to the
    neighbour along the second axis. The others wait for these. -/
inductive Step
  | load (j : Fin 8) | waitLoad (j : Fin 8) | store (j : Fin 8) | waitStore (j : Fin 8)
  | sendX (k : Fin 64) | waitRecvX (k : Fin 64) | sendY (k : Fin 64)
  | waitSendX (k : Fin 64) | waitSendY (k : Fin 64) | waitRecvY (k : Fin 64)
  deriving DecidableEq

/-! ## The operands of a step -/

/-- A chunk number is in range of a family of 64 semaphores. -/
theorem inb64 (k : Fin 64) : ∀ a, (![k.val] : Fin 1 → Nat) a + S1.size a ≤ S64.size a := by
  intro a; fin_cases a; exact k.isLt
/-- A chunk number is in range of a family of 8 semaphores. -/
theorem inb8 (j : Fin 8) : ∀ a, (![j.val] : Fin 1 → Nat) a + S1.size a ≤ S8.size a := by
  intro a; fin_cases a; exact j.isLt
/-- The slot of a chunk lies in the stage. -/
theorem inbStage (j : Fin 8) :
    ∀ a, (![j.val % 4, 0, 0] : Fin 3 → Nat) a + S1x1024x1024.size a ≤ S4x1024x1024.size a := by
  intro a; fin_cases a
  · exact Nat.mod_lt _ (by decide)
  · exact le_refl _
  · exact le_refl _
/-- The rows of a chunk lie in the argument. -/
theorem inbLoad (j : Fin 8) : ∀ a, (![1024 * j.val, 0] : Fin 2 → Nat) a + S1024x1024.size a ≤ S8192x1024.size a := by
  intro a; fin_cases a
  · have := j.isLt
    show 1024 * j.val + 1024 ≤ 8192
    omega
  · exact le_refl _

/-- The `k`-th semaphore of an array of 64. -/
abbrev at64 (A : DmaSems sig S64) (k : Fin 64) : DmaSem sig :=
  ((A.slice (Rect.unit (s := S64) ![k.val] S1.size (inb64 k))).squeeze S_ squeezes_S1_S_).sem
/-- The `j`-th semaphore of an array of 8. -/
abbrev at8 (A : DmaSems sig S8) (j : Fin 8) : DmaSem sig :=
  ((A.slice (Rect.unit (s := S8) ![j.val] S1.size (inb8 j))).squeeze S_ squeezes_S1_S_).sem

/-- The device's argument, its result and its staging buffer, whole. -/
abbrev xM : Memref sig .tc .hbm S8192x1024 .f32 := Memref.whole main_arg0
/-- The result, whole. -/
abbrev oM : Memref sig .tc .hbm S16384x1024 .f32 := Memref.whole main_v1
/-- The stage, whole. -/
abbrev sM : Memref sig .tc .vmem S4x1024x1024 .f32 := Memref.whole cc0_scratch0

/-- Rows of the result that `sendX k` of device `c` writes on the neighbour. -/
abbrev outX (c : Dev nD) (k : Fin 64) : Memref sig .tc .hbm S64x1024 .f32 :=
  oM.slice (Rect.unit (s := S16384x1024) (k0_off1 c (BitVec.ofNat 32 (64 * k.val))) S64x1024.size (k0_off1_inb c k)) (fun _ => rfl)
/-- Rows of the argument that `sendX k` of device `c` reads. -/
abbrev srcX (c : Dev nD) (k : Fin 64) : Memref sig .tc .hbm S64x1024 .f32 :=
  xM.slice (Rect.unit (s := S8192x1024) (k0_off2 c (BitVec.ofNat 32 (64 * k.val))) S64x1024.size (k0_off2_inb c k)) (fun _ => rfl)
/-- Rows of the result that device `c` receives as chunk `k` and passes on by `sendY k`. -/
abbrev outY (c : Dev nD) (k : Fin 64) : Memref sig .tc .hbm S64x1024 .f32 :=
  oM.slice (Rect.unit (s := S16384x1024) (k0_off3 c (BitVec.ofNat 32 (64 * k.val))) S64x1024.size (k0_off3_inb c k)) (fun _ => rfl)
/-- Rows of the result that `store j` of device `c` writes. -/
abbrev outL (c : Dev nD) (j : Fin 8) : Memref sig .tc .hbm S1024x1024 .f32 :=
  oM.slice (Rect.unit (s := S16384x1024) (k0_off4 c (BitVec.ofNat 32 (1024 * j.val))) S1024x1024.size (k0_off4_inb c j)) (fun _ => rfl)
/-- Rows of the argument that `load j` reads. -/
abbrev srcL (j : Fin 8) : Memref sig .tc .hbm S1024x1024 .f32 :=
  xM.slice (Rect.unit (s := S8192x1024) ![1024 * j.val, 0] S1024x1024.size (inbLoad j)) (fun _ => rfl)
/-- The stage slot of chunk `j`. -/
abbrev slot (j : Fin 8) : Memref sig .tc .vmem S1024x1024 .f32 :=
  (sM.slice (Rect.unit (s := S4x1024x1024) ![j.val % 4, 0, 0] S1x1024x1024.size (inbStage j)) (fun _ => rfl)).squeeze
    S1024x1024 squeezes_S1x1024x1024_S1024x1024

/-- The neighbour along the first mesh axis, and along the second, as the kernel computes them. -/
abbrev px (c : Dev nD) : Dev nD := ⟨k0_dev1 c, k0_dev1_lt c⟩
/-- The neighbour along the second mesh axis. -/
abbrev py (c : Dev nD) : Dev nD := ⟨k0_dev2 c, k0_dev2_lt c⟩

/-- The runtime's barrier semaphore. -/
abbrev barS : Sem sig := (SemArray.scalar (d := ![]) (sig.barrier 0 rfl)).sem

/-! ## Programs -/

variable {F : FTy → Type} [FloatOps F]

/-- The type of the body's programs. -/
abbrev Pr (F : FTy → Type) [FloatOps F] : Type 1 := Prog (TpuEff nD τ sig (Elt F) Λ₀ .tc) PUnit

/-- The step `s` on device `c`, then `k`. -/
def Step.andThen (c : Dev nD) (k : Pr F) : Step → Pr F
  | .load j => .op (.enqueueDma (srcL j) (.here (slot j)) (.dma (at8 cc0_scratch5 j)) (View.wordExact_bits rfl)
      ((View.wordExact_bits rfl).reshape _ _) ⟨Or.inl rfl, trivial⟩) fun _ => k
  | .waitLoad j => .op (.waitDma2 (at8 cc0_scratch5 j) (srcL j) (slot j) (View.wordExact_bits rfl)
      ((View.wordExact_bits rfl).reshape _ _)) fun _ => k
  | .store j => .op (.enqueueDma (slot j) (.here (outL c j)) (.dma (at8 cc0_scratch6 j))
      ((View.wordExact_bits rfl).reshape _ _) (View.wordExact_bits rfl) ⟨Or.inl rfl, trivial⟩) fun _ => k
  | .waitStore j => .op (.waitDma2 (at8 cc0_scratch6 j) (slot j) (outL c j) ((View.wordExact_bits rfl).reshape _ _)
      (View.wordExact_bits rfl)) fun _ => k
  | .sendX i => .op (.enqueueDma (srcX c i) (.remote (Dev.tc (px c)) (outX c i) (.dma (at64 cc0_scratch1 i)))
      (.dma (at64 cc0_scratch2 i)) (View.wordExact_bits rfl) (View.wordExact_bits rfl) ⟨⟨rfl, Or.inl rfl⟩, trivial⟩) fun _ => k
  | .waitRecvX i => .op (.waitDma2 (at64 cc0_scratch2 i) (srcX c i) (outX c i) (View.wordExact_bits rfl)
      (View.wordExact_bits rfl)) fun _ => k
  | .sendY i => .op (.enqueueDma (outY c i) (.remote (Dev.tc (py c)) (outY c i) (.dma (at64 cc0_scratch3 i)))
      (.dma (at64 cc0_scratch4 i)) (View.wordExact_bits rfl) (View.wordExact_bits rfl) ⟨⟨rfl, Or.inl rfl⟩, trivial⟩) fun _ => k
  | .waitSendX i => .op (.waitDma2 (at64 cc0_scratch1 i) (outX c i) (srcX c i) (View.wordExact_bits rfl)
      (View.wordExact_bits rfl)) fun _ => k
  | .waitSendY i => .op (.waitDma2 (at64 cc0_scratch3 i) (outY c i) (outY c i) (View.wordExact_bits rfl)
      (View.wordExact_bits rfl)) fun _ => k
  | .waitRecvY i => .op (.waitDma2 (at64 cc0_scratch4 i) (outY c i) (outY c i) (View.wordExact_bits rfl)
      (View.wordExact_bits rfl)) fun _ => k

/-- A list of steps, in order. -/
def runSteps (c : Dev nD) : List Step → Pr F
  | [] => .ret ⟨⟩
  | s :: l => s.andThen c (runSteps c l)

/-! ## The kernel's list -/

/-- The numbers of 64-row chunks, in order. -/
def chunks : List (Fin 64) := (List.range 64).map (Fin.ofNat 64)

/-- The local copy's steps at its `j`-th turn: once a slot is free again the load three chunks ahead is started, then
    the `j`-th chunk is awaited and stored. -/
def localStep (j : Nat) : List Step :=
  (if 1 ≤ j ∧ j + 3 < 8 then [.waitStore (Fin.ofNat 8 (j - 1)), .load (Fin.ofNat 8 (j + 3))] else [])
    ++ [.waitLoad (Fin.ofNat 8 j), .store (Fin.ofNat 8 j)]

/-- The steps of chunk `k` of the forwarding loop; one turn in seven carries a local copy step. -/
def forwardStep (k : Fin 64) : List Step :=
  [.waitRecvX k, .sendY k] ++ if k.val % 7 = 4 ∧ k.val < 54 then localStep (k.val / 7) else []

/-- The steps of chunk `k` of the closing loop. -/
def drainStep (k : Fin 64) : List Step := [.waitSendX k, .waitSendY k, .waitRecvY k]

/-- All steps after the barrier, in the order of the program. -/
def steps : List Step :=
  [.load 0, .load 1, .load 2, .load 3] ++ chunks.map .sendX ++ chunks.flatMap forwardStep
    ++ chunks.flatMap drainStep ++ [.waitStore 4, .waitStore 5, .waitStore 6, .waitStore 7]

set_option maxRecDepth 100000 in
/-- The printed body is: read the device id, signal the two neighbours' barriers, wait for 2 on the own one, and run
    the steps. -/
theorem body_eq :
    cc0_body (F := F) (Memref.whole main_arg0) (Memref.isWhole_whole _) (Memref.whole main_v1) (Memref.isWhole_whole _)
        (Memref.whole cc0_scratch0) (Memref.isWhole_whole _) cc0_scratch1 cc0_scratch2 cc0_scratch3 cc0_scratch4
        cc0_scratch5 cc0_scratch6
      = Prog.op .deviceId fun c : Dev nD =>
          .op (.semSignal (Dev.tc (px c)) barS (1#32 : BitVec 32).toInt) fun _ =>
          .op (.semSignal (Dev.tc (py c)) barS (1#32 : BitVec 32).toInt) fun _ =>
          .op (.semWait barS (2#32 : BitVec 32).toInt) fun _ =>
          runSteps c steps := by
  chain_rfl

end Cert.Gather

end
-- ==== Proof.Regions.lean ====
/-
# Which rows every transfer reads and writes, and what lands there

Device `c` of the four stands at row `c / 2` and column `c % 2` of the mesh. A device's result has 16384 rows: the 8192 of its
own mesh row, which the local copy fills from the device's own block in 8 chunks of 1024 rows; and the 8192 of the
other mesh row, filled in 128 chunks of 64 rows, one half of them received from the neighbour along the first axis, the
other half from the neighbour along the second, which had them from its own neighbour.
-/
module

public import proofs.«01_k».proof.Proof.Steps
public import Idealize.ShloMosaic.Lib.Pipeline.ValueKit.Geometry

@[expose] public section

noncomputable section

namespace Cert.Gather

open Cert.KernelIdeal Cert.KernelIdeal.Gen
open Idealize.ShloMosaic Idealize.ShloMosaic.TcCoe Idealize.SL.Sem

/-! ## The neighbours -/

/-- The number of the first-axis neighbour. -/
theorem px_val (c : Dev nD) : (px c).val = c.val % 2 + 2 - 2 * (c.val / 2) := k0_dev1_eq c
/-- The number of the second-axis neighbour. -/
theorem py_val (c : Dev nD) : (py c).val = 2 * (c.val / 2) + 1 - c.val % 2 := k0_dev2_eq c

/-- There are four devices. -/
theorem dev_lt (c : Dev nD) : c.val < 4 := c.isLt

/-- The first-axis neighbour is in the other row of the mesh. -/
theorem px_row (c : Dev nD) : (px c).val / 2 = 1 - c.val / 2 := by
  have h := dev_lt c; rw [px_val]; omega
/-- The first-axis neighbour is in the same column. -/
theorem px_col (c : Dev nD) : (px c).val % 2 = c.val % 2 := by
  have h := dev_lt c; rw [px_val]; omega
/-- The second-axis neighbour is in the same row. -/
theorem py_row (c : Dev nD) : (py c).val / 2 = c.val / 2 := by
  have h := dev_lt c; rw [py_val]; omega
/-- The second-axis neighbour is in the other column. -/
theorem py_col (c : Dev nD) : (py c).val % 2 = 1 - c.val % 2 := by
  have h := dev_lt c; rw [py_val]; omega

/-- Row and column determine a device. -/
theorem dev_ext {c d : Dev nD} (h₁ : c.val / 2 = d.val / 2) (h₂ : c.val % 2 = d.val % 2) : c = d :=
  Fin.ext (by omega)

/-- The first-axis neighbour's first-axis neighbour is the device itself. -/
theorem px_px (c : Dev nD) : px (px c) = c :=
  dev_ext (by have := dev_lt c; rw [px_row, px_row]; omega) (by rw [px_col, px_col])
/-- The second-axis neighbour's second-axis neighbour is the device itself. -/
theorem py_py (c : Dev nD) : py (py c) = c :=
  dev_ext (by rw [py_row, py_row]) (by have := dev_lt c; rw [py_col, py_col]; omega)

/-! ## The rows -/

/-- First row of the chunk `k` of `c`'s half block, as rows of the result. -/
abbrev rowX (c : Dev nD) (k : Fin 64) : ℕ := 8192 * (c.val / 2) + 4096 * (c.val % 2) + 64 * k.val

/-- Where `sendX k` writes. -/
theorem off1_eq (c : Dev nD) (k : Fin 64) : k0_off1 c (BitVec.ofNat 32 (64 * k.val)) = ![rowX c k, 0] := k0_off1_eq c k
/-- Where `sendX k` reads. -/
theorem off2_eq (c : Dev nD) (k : Fin 64) : k0_off2 c (BitVec.ofNat 32 (64 * k.val)) = ![4096 * (c.val % 2) + 64 * k.val, 0] := k0_off2_eq c k
/-- Where `sendY k` reads and writes. -/
theorem off3_eq (c : Dev nD) (k : Fin 64) : k0_off3 c (BitVec.ofNat 32 (64 * k.val)) = ![rowX (px c) k, 0] := by
  refine (k0_off3_eq c k).trans ?_
  have := dev_lt c
  refine congrArg (fun n => ![n, 0]) ?_
  unfold rowX; rw [px_row, px_col]; omega
/-- Where store `j` writes. -/
theorem off4_eq (c : Dev nD) (j : Fin 8) : k0_off4 c (BitVec.ofNat 32 (1024 * j.val)) = ![8192 * (c.val / 2) + 1024 * j.val, 0] :=
  k0_off4_eq c j

/-- A rectangle of whole rows holds exactly the elements of these rows. -/
theorem mem_rows {R N : ℕ} {off : Fin 2 → ℕ} {inb : ∀ a, off a + (⟨2, ![N, 1024]⟩ : Shape).size a ≤ (⟨2, ![R, 1024]⟩ : Shape).size a}
    {r : ℕ} (h : off = ![r, 0]) (i : (⟨2, ![R, 1024]⟩ : Shape).Idx) :
    i ∈ (Rect.unit (s := ⟨2, ![R, 1024]⟩) off (⟨2, ![N, 1024]⟩ : Shape).size inb).set ↔ r ≤ (i 0).val ∧ (i 0).val < r + N := by
  subst h
  rw [Rect.mem_set_unit]
  constructor
  · intro h; exact h 0
  · intro h a
    fin_cases a
    · exact h
    · exact ⟨Nat.zero_le _, lt_of_lt_of_eq (i 1).isLt (Nat.zero_add 1024).symm⟩

/-- The elements that `sendX k` writes. -/
theorem mem_outX (c : Dev nD) (k : Fin 64) (i : S16384x1024.Idx) :
    i ∈ (outX c k).view.set ↔ rowX c k ≤ (i 0).val ∧ (i 0).val < rowX c k + 64 :=
  ValueKit.mem_set_slice_whole_iff main_v1 _ i (mem_rows (off1_eq c k) i)
/-- The elements that `sendY k` reads and writes. -/
theorem mem_outY (c : Dev nD) (k : Fin 64) (i : S16384x1024.Idx) :
    i ∈ (outY c k).view.set ↔ rowX (px c) k ≤ (i 0).val ∧ (i 0).val < rowX (px c) k + 64 :=
  ValueKit.mem_set_slice_whole_iff main_v1 _ i (mem_rows (off3_eq c k) i)
/-- The elements that store `j` writes. -/
theorem mem_outL (c : Dev nD) (j : Fin 8) (i : S16384x1024.Idx) :
    i ∈ (outL c j).view.set ↔ 8192 * (c.val / 2) + 1024 * j.val ≤ (i 0).val ∧ (i 0).val < 8192 * (c.val / 2) + 1024 * j.val + 1024 :=
  ValueKit.mem_set_slice_whole_iff main_v1 _ i (mem_rows (off4_eq c j) i)
/-- The elements that `sendX k` reads. -/
theorem mem_srcX (c : Dev nD) (k : Fin 64) (i : S8192x1024.Idx) :
    i ∈ (srcX c k).view.set ↔ 4096 * (c.val % 2) + 64 * k.val ≤ (i 0).val ∧ (i 0).val < 4096 * (c.val % 2) + 64 * k.val + 64 :=
  ValueKit.mem_set_slice_whole_iff main_arg0 _ i (mem_rows (off2_eq c k) i)
/-- The elements that load `j` reads. -/
theorem mem_srcL (j : Fin 8) (i : S8192x1024.Idx) :
    i ∈ (srcL j).view.set ↔ 1024 * j.val ≤ (i 0).val ∧ (i 0).val < 1024 * j.val + 1024 :=
  ValueKit.mem_set_slice_whole_iff main_arg0 _ i (mem_rows rfl i)

/-- The rows a device forwards are the rows it received. -/
theorem set_outY (c : Dev nD) (k : Fin 64) : (outY c k).view.set = (outX (px c) k).view.set :=
  Finset.ext fun i => (mem_outY c k i).trans (mem_outX (px c) k i).symm

/-- An element of a stage slot has the slot's number as its first coordinate. -/
theorem mem_slot (j : Fin 8) (i : S4x1024x1024.Idx) : i ∈ (slot j).view.set ↔ (i 0).val = j.val % 4 := by
  have h : (slot j).view.set = (Rect.unit (s := S4x1024x1024) ![j.val % 4, 0, 0] S1x1024x1024.size (inbStage j)).set :=
    (View.set_reshape _ _).trans (View.set_slice_whole cc0_scratch0 _)
  rw [h, Rect.mem_set_unit]
  constructor
  · intro h
    have h0 : j.val % 4 ≤ (i 0).val ∧ (i 0).val < j.val % 4 + 1 := h 0
    omega
  · intro h a
    fin_cases a
    · show j.val % 4 ≤ (i 0).val ∧ (i 0).val < j.val % 4 + 1
      omega
    · exact ⟨Nat.zero_le _, lt_of_lt_of_eq (i 1).isLt (Nat.zero_add 1024).symm⟩
    · exact ⟨Nat.zero_le _, lt_of_lt_of_eq (i 2).isLt (Nat.zero_add 1024).symm⟩

/-! ## What the result holds in the end -/

variable {F : FTy → Type} [FloatOps F]
variable (m : (ℓ : Loc nD τ sig) → Buf (Elt F) ℓ)

/-- The device whose block row `r` of `d`'s result comes from: one of the mesh row `r / 8192`. Of its own mesh row a
    device reads its own block; of the other one each half from the device that stands in that half's column. -/
def origin (d : Dev nD) (r : Fin 16384) : Dev nD :=
  ⟨2 * (r.val / 8192) + (if r.val / 8192 = d.val / 2 then d.val % 2 else r.val % 8192 / 4096), by
    have h := r.isLt
    show _ < 4
    split <;> omega⟩

/-- Rows of the device's own mesh row come from the device. -/
theorem origin_own (d : Dev nD) (r : Fin 16384) (h : r.val / 8192 = d.val / 2) : origin d r = d :=
  Fin.ext (by show 2 * _ + ite _ _ _ = _; rw [if_pos h]; omega)
/-- Rows of the other mesh row come from the device of that row in the column of the half. -/
theorem origin_other (d s : Dev nD) (r : Fin 16384) {n : ℕ} (hn : r.val = n) (h : n / 8192 ≠ d.val / 2)
    (hr : n / 8192 = s.val / 2) (hc : n % 8192 / 4096 = s.val % 2) : origin d r = s :=
  Fin.ext (by subst hn; show 2 * _ + ite _ _ _ = _; rw [if_neg h]; omega)

/-- The element of a block in row `r` and column `q`. -/
def blockIdx (r : ℕ) (hr : r < 8192) (q : Fin 1024) : S8192x1024.Idx := fun a => ⟨![r, q.val] a, by
  fin_cases a
  · exact hr
  · exact q.isLt⟩

/-- What `d`'s result holds in the end: row `r` is row `r % 8192` of the block of `origin d r`. -/
def outAt (d : Dev nD) : Buf (Elt F) ((d : Thread nD τ).loc main_v1) := fun (i : S16384x1024.Idx) =>
  m ((origin d (i 0) : Thread nD τ).loc main_arg0) (blockIdx ((i 0).val % 8192) (Nat.mod_lt _ (by decide)) (i 1))

/-- What the result is to hold at an element whose row comes from device `s` is `s`'s element of that row. -/
theorem outAt_eq {d s : Dev nD} (i : S16384x1024.Idx) (j : S8192x1024.Idx) (h : origin d (i 0) = s)
    (h₀ : (j 0).val = (i 0).val % 8192) (h₁ : (j 1).val = (i 1).val) :
    outAt m d i = m ((s : Thread nD τ).loc main_arg0) j := by
  subst h
  refine congrArg (m ((origin d (i 0) : Thread nD τ).loc main_arg0)) (funext fun a => Fin.ext ?_)
  fin_cases a
  · exact h₀.symm
  · exact h₁.symm

/-- Two results agree where the same device's block is wanted. -/
theorem outAt_congr {d d' : Dev nD} (i : S16384x1024.Idx) (h : origin d (i 0) = origin d' (i 0)) :
    outAt m d i = outAt m d' i :=
  congrArg (fun s : Dev nD => m ((s : Thread nD τ).loc main_arg0) (blockIdx ((i 0).val % 8192) (Nat.mod_lt _ (by decide)) (i 1))) h

/-- A transfer lands the wanted contents if each element it reads is the one wanted where it writes it. -/
theorem landed {κ κ' : Kind} {sp sp' : Space} {s : Shape} {e : EltTy} (src : View sig κ sp s e) (dst : View sig κ' sp' s e)
    (fs : src.ty.Contents (Elt F)) (fd g : dst.ty.Contents (Elt F))
    (h : ∀ x, src.read (Elt F) fs x = dst.read (Elt F) g x) (i) (hi : i ∈ dst.set) :
    dst.write (Elt F) fd (src.read (Elt F) fs) Finset.univ i = g i := by
  obtain ⟨x, -, rfl⟩ := Finset.mem_map.mp hi
  rw [View.write_emb_of_mem _ _ (Finset.mem_univ x), h, View.read_apply, cast_cast, cast_eq]

/-- An index of a rectangle of whole rows, placed: its row counts from the first, its column stays. -/
theorem emb_rows {R N : ℕ} {off : Fin 2 → ℕ} {inb : ∀ a, off a + (⟨2, ![N, 1024]⟩ : Shape).size a ≤ (⟨2, ![R, 1024]⟩ : Shape).size a}
    {r : ℕ} (h : off = ![r, 0]) (x : (⟨2, ![N, 1024]⟩ : Shape).Idx) :
    ((Rect.unit (s := ⟨2, ![R, 1024]⟩) off (⟨2, ![N, 1024]⟩ : Shape).size inb).emb x 0).val = r + (x 0).val
      ∧ ((Rect.unit (s := ⟨2, ![R, 1024]⟩) off (⟨2, ![N, 1024]⟩ : Shape).size inb).emb x 1).val = (x 1).val := by
  subst h
  exact ⟨ValueKit.rect_emb_unit_val (s := ⟨2, ![R, 1024]⟩) ![r, 0] ![N, 1024] inb x 0,
    (ValueKit.rect_emb_unit_val (s := ⟨2, ![R, 1024]⟩) ![r, 0] ![N, 1024] inb x 1).trans (Nat.zero_add _)⟩

/-- What `sendX k` of `c` lands on the neighbour is what the neighbour's result is to hold there. -/
theorem landed_X (c : Dev nD) (k : Fin 64) (fd : Buf (Elt F) ((px c : Thread nD τ).loc main_v1)) (i : S16384x1024.Idx)
    (hi : i ∈ (outX c k).view.set) :
    (outX c k).view.write (Elt F) fd ((srcX c k).view.read (Elt F) (m ((c : Thread nD τ).loc main_arg0))) Finset.univ i
      = outAt m (px c) i := by
  refine landed (srcX c k).view (outX c k).view _ fd (outAt m (px c)) (fun x => ?_) i hi
  obtain ⟨hd, hd'⟩ := emb_rows (inb := k0_off1_inb c k) (off1_eq c k) x
  obtain ⟨hs, hs'⟩ := emb_rows (inb := k0_off2_inb c k) (off2_eq c k) x
  have hc := dev_lt c
  have hk := k.isLt
  have hx : (x 0).val < 64 := (x 0).isLt
  unfold rowX at hd
  have hp := px_row c
  exact (outAt_eq m (s := c) _ _ (origin_other (px c) c _ hd (by omega) (by omega) (by omega)) (by omega) (hs'.trans hd'.symm)).symm

/-- What `sendY k` of `c` lands on its neighbour — rows of `c`'s own final contents — is what the neighbour's result is
    to hold there. -/
theorem landed_Y (c : Dev nD) (k : Fin 64) (fd : Buf (Elt F) ((py c : Thread nD τ).loc main_v1)) (i : S16384x1024.Idx)
    (hi : i ∈ (outY c k).view.set) :
    (outY c k).view.write (Elt F) fd ((outY c k).view.read (Elt F) (outAt m c)) Finset.univ i = outAt m (py c) i := by
  refine landed (outY c k).view (outY c k).view _ fd (outAt m (py c)) (fun x => ?_) i hi
  obtain ⟨hd, -⟩ := emb_rows (inb := k0_off3_inb c k) (off3_eq c k) x
  have hc := dev_lt c
  have hk := k.isLt
  have hx : (x 0).val < 64 := (x 0).isLt
  have hp := px_row c
  have hq := px_col c
  have hy := py_row c
  unfold rowX at hd
  exact outAt_congr m _ ((origin_other c (px c) _ hd (by omega) (by omega) (by omega)).trans
    (origin_other (py c) (px c) _ hd (by omega) (by omega) (by omega)).symm)

/-- What the local copy of chunk `j` stores is what the device's own result is to hold there. -/
theorem landed_L (c : Dev nD) (j : Fin 8) (fd : Buf (Elt F) ((c : Thread nD τ).loc main_v1)) (i : S16384x1024.Idx)
    (hi : i ∈ (outL c j).view.set) :
    (outL c j).view.write (Elt F) fd ((srcL j).view.read (Elt F) (m ((c : Thread nD τ).loc main_arg0))) Finset.univ i
      = outAt m c i := by
  refine landed (srcL j).view (outL c j).view _ fd (outAt m c) (fun x => ?_) i hi
  obtain ⟨hd, hd'⟩ := emb_rows (inb := k0_off4_inb c j) (off4_eq c j) x
  obtain ⟨hs, hs'⟩ := emb_rows (inb := inbLoad j) rfl x
  have hc := dev_lt c
  have hj := j.isLt
  have hx : (x 0).val < 1024 := (x 0).isLt
  exact (outAt_eq m (s := c) _ _ (origin_own c _ (by rw [hd]; omega)) (by omega) (hs'.trans hd'.symm)).symm

end Cert.Gather

end
-- ==== Proof.Cells.lean ====
/-
# The semaphores of a device

A device has the runtime's barrier semaphore and 272 semaphores of its own: 64 each for the chunks sent and received
along the first mesh axis and along the second, 8 each for the loads and stores of the local copy. `Ch` names them by
what they are for; `semOf` and `chOf` translate between these names and the program's semaphores.
-/
module

public import proofs.«01_k».proof.Proof.Regions
public import Idealize.ShloMosaic.Lib.Rounds
public import Idealize.ShloMosaic.Lib.Rounds.Family
public import Idealize.ShloMosaic.Lib.Pipeline.Launch

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The semaphores of a device by purpose. -/
abbrev Ch : Type := Unit ⊕ Fin 64 ⊕ Fin 64 ⊕ Fin 64 ⊕ Fin 64 ⊕ Fin 8 ⊕ Fin 8

namespace Ch
/-- The barrier. -/
abbrev bar : Ch := .inl ()
/-- Chunk `k` has been read by `sendX k`. -/
abbrev sx (k : Fin 64) : Ch := .inr (.inl k)
/-- Chunk `k` of the first-axis neighbour has arrived. -/
abbrev rx (k : Fin 64) : Ch := .inr (.inr (.inl k))
/-- Chunk `k` has been read by `sendY k`. -/
abbrev sy (k : Fin 64) : Ch := .inr (.inr (.inr (.inl k)))
/-- Chunk `k` of the second-axis neighbour has arrived. -/
abbrev ry (k : Fin 64) : Ch := .inr (.inr (.inr (.inr (.inl k))))
/-- The `j`-th load is done. -/
abbrev ld (j : Fin 8) : Ch := .inr (.inr (.inr (.inr (.inr (.inl j)))))
/-- The `j`-th store is done. -/
abbrev st (j : Fin 8) : Ch := .inr (.inr (.inr (.inr (.inr (.inr j)))))
end Ch

set_option synthInstance.maxSize 1000 in
set_option synthInstance.maxHeartbeats 400000 in
instance : DecidableEq Ch := inferInstance

/-- The program's semaphore for a purpose. -/
def semOf : Ch → SemLoc sig
  | .inl _ => .reg barS
  | .inr (.inl k) => .dma (at64 cc0_scratch1 k)
  | .inr (.inr (.inl k)) => .dma (at64 cc0_scratch2 k)
  | .inr (.inr (.inr (.inl k))) => .dma (at64 cc0_scratch3 k)
  | .inr (.inr (.inr (.inr (.inl k)))) => .dma (at64 cc0_scratch4 k)
  | .inr (.inr (.inr (.inr (.inr (.inl j))))) => .dma (at8 cc0_scratch5 j)
  | .inr (.inr (.inr (.inr (.inr (.inr j))))) => .dma (at8 cc0_scratch6 j)

/-- The purpose of a semaphore, read off its number. -/
def chOf : SemLoc sig → Ch
  | .reg _ => .bar
  | .dma q =>
    if q.val < 64 then .sx (Fin.ofNat 64 q.val)
    else if q.val < 128 then .rx (Fin.ofNat 64 (q.val - 64))
    else if q.val < 192 then .sy (Fin.ofNat 64 (q.val - 128))
    else if q.val < 256 then .ry (Fin.ofNat 64 (q.val - 192))
    else if q.val < 264 then .ld (Fin.ofNat 8 (q.val - 256))
    else .st (Fin.ofNat 8 (q.val - 264))

set_option maxRecDepth 100000 in
/-- Reading the purpose off the semaphore for a purpose gives the purpose. -/
theorem chOf_semOf : ∀ h : Ch, chOf (semOf h) = h := by
  rintro (u | k | k | k | k | k | k)
  · rfl
  all_goals revert k; decide

/-- Going from a transfer semaphore to its purpose and back gives the same semaphore. -/
theorem semOf_chOf_dma : ∀ q : Fin 272, semOf (chOf (.dma q)) = .dma q := by decide +kernel

/-- Going from any semaphore to its purpose and back gives the same semaphore. -/
theorem semOf_chOf : ∀ g : SemLoc sig, semOf (chOf g) = g
  | .reg s => by have : s = barS := Subsingleton.elim (α := Fin 1) s barS
                 rw [this]; rfl
  | .dma q => semOf_chOf_dma q

/-- The two translations are inverse to each other. -/
def semEquiv : Ch ≃ SemLoc sig := ⟨semOf, chOf, chOf_semOf, semOf_chOf⟩

/-- Different purposes have different semaphores. -/
theorem semOf_injective : Function.Injective semOf := semEquiv.injective

/-- The cell of device `c` for the purpose `h`. -/
abbrev cell (c : Dev nD) (h : Ch) : GSem nD τ sig := ((c : Thread nD τ), semOf h)

/-- A cell determines its device and its purpose. -/
theorem cell_inj {c d : Dev nD} {h h' : Ch} (e : cell c h = cell d h') : c = d ∧ h = h' :=
  ⟨congrArg (fun g : GSem nD τ sig => g.1.1) e, semOf_injective (congrArg Prod.snd e)⟩

/-- A family over all purposes, one family per purpose. -/
theorem bigSep_ch {M : Type} [URA M] (Φ : Ch → sProp M) :
    bigSep Finset.univ Φ = iprop(Φ .bar ∗ bigSep Finset.univ (fun k => Φ (.sx k)) ∗ bigSep Finset.univ (fun k => Φ (.rx k))
      ∗ bigSep Finset.univ (fun k => Φ (.sy k)) ∗ bigSep Finset.univ (fun k => Φ (.ry k))
      ∗ bigSep Finset.univ (fun j => Φ (.ld j)) ∗ bigSep Finset.univ (fun j => Φ (.st j))) := by
  rw [bigSep_univ_sum, bigSep_univ_sum, bigSep_univ_sum, bigSep_univ_sum, bigSep_univ_sum, bigSep_univ_sum,
    Finset.univ_unique, bigSep_singleton]
  rfl

/-! ## The mesh partners as permutations -/

/-- Going to the first-axis neighbour. -/
def flipX : Dev nD ≃ Dev nD := ⟨px, px, px_px, px_px⟩
/-- Going to the second-axis neighbour. -/
def flipY : Dev nD ≃ Dev nD := ⟨py, py, py_py, py_py⟩

end Cert.Gather

end
-- ==== Proof.Schedule.lean ====
/-
# What each semaphore hands over

Every semaphore is used once. The barrier of a device is signalled by its two neighbours, each of which gives the device
the part of its result that the device is to write. A transfer's completion gives its destination with the final
contents, or the part of the argument or the result it read.
-/
module

public import proofs.«01_k».proof.Proof.Cells
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's own resources: the launch library's and those of the protocol below. -/
abbrev UB : Type := URounds (GSem nD τ sig) Bool
/-- The launch library's resources and the protocol's, together. -/
abbrev UU : Type := UR sig nD τ × UB

local notation "𝕄" => MT nD τ sig Unit (Elt F) ℕ UU ℕ

/-- Where the launch library's resources are. -/
abbrev EP : Emb (UR sig nD τ) (MT nD τ sig Unit (Elt F) ℕ UU ℕ) := embL
/-- Where the protocol's resources are. -/
abbrev ER : Emb UB (MT nD τ sig Unit (Elt F) ℕ UU ℕ) := embR

variable (m : (ℓ : Loc nD τ sig) → Buf (Elt F) ℓ)

/-! ## Parts of the buffers -/

/-- The elements `S` of device `c`'s argument, with share `q`, holding what they held at the start. -/
def xPts (c : Dev nD) (q : PosShare TreeShare) (S : Finset S8192x1024.Idx) : sProp 𝕄 :=
  ((c : Thread nD τ).loc main_arg0) ↦[S]{q} m ((c : Thread nD τ).loc main_arg0)
/-- The elements `S` of device `c`'s result, holding what they held at the start. -/
def oldPts (c : Dev nD) (S : Finset S16384x1024.Idx) : sProp 𝕄 :=
  ((c : Thread nD τ).loc main_v1) ↦[S]{fullShare} m ((c : Thread nD τ).loc main_v1)
/-- The elements `S` of device `c`'s result, holding what they are to hold in the end. -/
def newPts (c : Dev nD) (S : Finset S16384x1024.Idx) : sProp 𝕄 :=
  ((c : Thread nD τ).loc main_v1) ↦[S]{fullShare} outAt m c
/-- The elements `S` of device `c`'s stage, holding anything. -/
def stPts (c : Dev nD) (S : Finset S4x1024x1024.Idx) : sProp 𝕄 :=
  iprop(∃ f : Buf (Elt F) ((c : Thread nD τ).loc cc0_scratch0), ((c : Thread nD τ).loc cc0_scratch0) ↦[S]{fullShare} f)
/-- The stage slot of chunk `j` on device `c`, holding that chunk of the argument. -/
def filled (c : Dev nD) (j : Fin 8) : sProp 𝕄 :=
  iprop(∃ f : Buf (Elt F) ((c : Thread nD τ).loc cc0_scratch0), ((c : Thread nD τ).loc cc0_scratch0) ↦[(slot j).view.set]{fullShare}
    (slot j).view.write (Elt F) f ((srcL j).view.read (Elt F) (m ((c : Thread nD τ).loc main_arg0))) Finset.univ)

/-- The share of the argument the sends use, and the one the loads use. -/
abbrev qS : PosShare TreeShare := fullShare.left
/-- The share the loads use. -/
abbrev qL : PosShare TreeShare := fullShare.right

omit [FloatOps F] in
instance xPts_storable (c : Dev nD) (q S) : BI.Storable (upEmb : UEmb _ 𝕄) (xPts (F := F) m c q S) := by unfold xPts; infer_instance
omit [FloatOps F] in
instance oldPts_storable (c : Dev nD) (S) : BI.Storable (upEmb : UEmb _ 𝕄) (oldPts (F := F) m c S) := by unfold oldPts; infer_instance
omit [FloatOps F] in
instance newPts_storable (c : Dev nD) (S) : BI.Storable (upEmb : UEmb _ 𝕄) (newPts (F := F) m c S) := by unfold newPts; infer_instance
omit [FloatOps F] in
instance stPts_storable (c : Dev nD) (S) : BI.Storable (upEmb : UEmb _ 𝕄) (stPts (F := F) c S) := by unfold stPts; infer_instance
omit [FloatOps F] in
instance filled_storable (c : Dev nD) (j) : BI.Storable (upEmb : UEmb _ 𝕄) (filled (F := F) m c j) := by unfold filled; infer_instance

/-! ## The schedule -/

/-- There is a number equal to a given one: with it a number can be named and not computed. -/
theorem exists_credit (n : ℕ) : ∃ k, k = n := ⟨n, rfl⟩

/-- The bytes of a 64-row chunk and of a 1024-row chunk, as the semaphores count them: numbers of which only that is
    known. -/
def N64 : ℕ := (exists_credit (outX 0 0).view.dmaCredit).choose
/-- The bytes of a 1024-row chunk, as the semaphores count them. -/
def N1024 : ℕ := (exists_credit (outL 0 0).view.dmaCredit).choose
/-- `N64` is the count of the first 64-row chunk. -/
theorem N64_eq : N64 = (outX 0 0).view.dmaCredit := (exists_credit _).choose_spec
/-- `N1024` is the count of the first 1024-row chunk. -/
theorem N1024_eq : N1024 = (outL 0 0).view.dmaCredit := (exists_credit _).choose_spec
/-- A 64-row chunk counts for something. -/
theorem N64_pos : 0 < N64 := lt_of_lt_of_eq (View.dmaCredit_pos _ (by decide)) N64_eq.symm
/-- A 1024-row chunk counts for something. -/
theorem N1024_pos : 0 < N1024 := lt_of_lt_of_eq (View.dmaCredit_pos _ (by decide)) N1024_eq.symm

/-- Every 64-row chunk counts the same, and every 1024-row chunk. -/
theorem credit_outX (c : Dev nD) (k : Fin 64) : (outX c k).view.dmaCredit = N64 := (show _ = (outX 0 0).view.dmaCredit from rfl).trans N64_eq.symm
/-- A chunk that `sendX` reads counts as any 64-row chunk. -/
theorem credit_srcX (c : Dev nD) (k : Fin 64) : (srcX c k).view.dmaCredit = N64 := (show _ = (outX 0 0).view.dmaCredit from rfl).trans N64_eq.symm
/-- A chunk that `sendY` moves counts as any 64-row chunk. -/
theorem credit_outY (c : Dev nD) (k : Fin 64) : (outY c k).view.dmaCredit = N64 := (show _ = (outX 0 0).view.dmaCredit from rfl).trans N64_eq.symm
/-- A chunk that is stored counts as any 1024-row chunk. -/
theorem credit_outL (c : Dev nD) (j : Fin 8) : (outL c j).view.dmaCredit = N1024 := (show _ = (outL 0 0).view.dmaCredit from rfl).trans N1024_eq.symm
/-- A stage slot counts as any 1024-row chunk. -/
theorem credit_slot (j : Fin 8) : (slot j).view.dmaCredit = N1024 := (show _ = (outL 0 0).view.dmaCredit from rfl).trans N1024_eq.symm

/-- What one instalment adds to a semaphore. -/
def amt (h : Ch) : ℕ := Sum.elim (fun _ => 1) (Sum.elim (fun _ => N64) (Sum.elim (fun _ => N64) (Sum.elim (fun _ => N64)
  (Sum.elim (fun _ => N64) (fun _ => N1024))))) h

/-- Every instalment adds something. -/
theorem amt_pos (h : Ch) : 0 < amt h := by
  rcases h with u | k | k | k | k | j
  · exact Nat.one_pos
  · exact N64_pos
  · exact N64_pos
  · exact N64_pos
  · exact N64_pos
  · exact N1024_pos

/-- The instalments of a semaphore: two for the barrier, one for a transfer. -/
def duty : Ch → Finset Bool
  | .inl _ => Finset.univ
  | .inr _ => {false}

/-- What an instalment on a semaphore of device `c` hands over. On the barrier `false` is the first-axis neighbour's. -/
def pay (c : Dev nD) : Ch → Bool → sProp 𝕄
  | .inl _, false => bigSep Finset.univ fun k : Fin 64 => oldPts m (px c) (outX c k).view.set
  | .inl _, true => bigSep Finset.univ fun k : Fin 64 => oldPts m (py c) (outY c k).view.set
  | .inr (.inl k), _ => xPts m c qS (srcX c k).view.set
  | .inr (.inr (.inl k)), _ => newPts m c (outX (px c) k).view.set
  | .inr (.inr (.inr (.inl k))), _ => newPts m c (outY c k).view.set
  | .inr (.inr (.inr (.inr (.inl k)))), _ => newPts m c (outY (py c) k).view.set
  | .inr (.inr (.inr (.inr (.inr (.inl j))))), _ => iprop(filled m c j ∗ xPts m c qL (srcL j).view.set)
  | .inr (.inr (.inr (.inr (.inr (.inr j))))), _ => iprop(newPts m c (outL c j).view.set ∗ stPts c (slot j).view.set)

omit [FloatOps F] in
instance pay_storable (c : Dev nD) (h : Ch) (d : Bool) : BI.Storable (upEmb : UEmb _ 𝕄) (pay (F := F) m c h d) := by
  rcases h with u | k | k | k | k | j | j
  · cases d <;> unfold pay <;> infer_instance
  all_goals unfold pay; infer_instance

/-- The schedule: one round for every semaphore of every device's core. -/
def Rd : Rounds.Schedule (GSem nD τ sig) Bool 𝕄 where
  duties g r := if r = 0 ∧ g.1.2 = .tc then duty (chOf g.2) else ∅
  unitless _ := False
  amount g _ _ := amt (chOf g.2)
  payload g _ d := pay m g.1.1 (chOf g.2) d
  amount_pos g _ _ _ := amt_pos _

instance Rd_payload_storable (g : GSem nD τ sig) (r : ℕ) (d : Bool) :
    BI.Storable (upEmb : UEmb _ 𝕄) ((Rd (F := F) m).payload g r d) := pay_storable m _ _ _

section Sched
variable (c : Dev nD) (h : Ch)

omit [FloatOps F] in
/-- The instalments of a cell in its round. -/
theorem duties_cell : (Rd (F := F) m).duties (cell c h) 0 = duty h := by
  dsimp only [Rd]; rw [chOf_semOf]; exact if_pos ⟨rfl, rfl⟩
omit [FloatOps F] in
/-- No cell has a second round. -/
theorem duties_later (g : GSem nD τ sig) : ∀ r, 1 ≤ r → (Rd (F := F) m).duties g r = ∅ :=
  fun r hr => by dsimp only [Rd]; rw [if_neg fun h => by omega]
omit [FloatOps F] in
/-- What an instalment adds to a cell. -/
theorem amount_cell (d : Bool) : (Rd (F := F) m).amount (cell c h) 0 d = amt h := by dsimp only [Rd]; rw [chOf_semOf]
omit [FloatOps F] in
/-- What an instalment on a cell hands over. -/
theorem payload_cell (d : Bool) : (Rd (F := F) m).payload (cell c h) 0 d = pay m c h d := by dsimp only [Rd]; rw [chOf_semOf]
omit [FloatOps F] in
/-- A transfer semaphore is full after its one instalment. -/
theorem expect_cell (hd : duty h = {false}) : (Rd (F := F) m).expect (cell c h) 0 = amt h := by
  unfold Schedule.expect Schedule.amountOf; rw [duties_cell, hd, Finset.sum_singleton, amount_cell]
omit [FloatOps F] in
/-- A barrier is full after two signals. -/
theorem expect_bar : (Rd (F := F) m).expect (cell c .bar) 0 = 2 := by
  unfold Schedule.expect Schedule.amountOf
  rw [duties_cell, Finset.sum_congr rfl fun d _ => amount_cell m c .bar d]
  rfl
omit [FloatOps F] in
/-- All that a transfer's semaphore hands over. -/
theorem rest_cell (hd : duty h = {false}) :
    bigSep ((Rd (F := F) m).duties (cell c h) 0 \ ∅) (fun d => (Rd (F := F) m).payload (cell c h) 0 d) = pay m c h false := by
  rw [Finset.sdiff_empty, duties_cell, hd, bigSep_singleton, payload_cell]
omit [FloatOps F] in
/-- All that the barrier hands over. -/
theorem rest_bar : bigSep ((Rd (F := F) m).duties (cell c .bar) 0 \ ∅) (fun d => (Rd (F := F) m).payload (cell c .bar) 0 d)
    = iprop(pay m c .bar false ∗ pay m c .bar true) := by
  rw [Finset.sdiff_empty, duties_cell]
  show bigSep Finset.univ _ = _
  rw [bigSep_univ_eq_bigSepL [false, true] (by decide) (by decide), bigSepL_cons_cons, bigSepL_singleton, payload_cell, payload_cell]
  rfl
end Sched

/-! ## The order in which semaphores are awaited -/

/-- Every semaphore of a core has one label. -/
def L (g : GSem nD τ sig) : Finset Unit := if g.1.2 = .tc then {()} else ∅

/-- A semaphore's level: arrivals along the second axis above those along the first, these above the barrier, the rest
    at the bottom. -/
def lvCh : Ch → ℕ
  | .inl _ => 1
  | .inr (.inl _) => 0
  | .inr (.inr (.inl _)) => 2
  | .inr (.inr (.inr (.inl _))) => 0
  | .inr (.inr (.inr (.inr (.inl _)))) => 3
  | .inr (.inr (.inr (.inr (.inr _)))) => 0
/-- The level of a semaphore, by its purpose. -/
def lv (g : GSem nD τ sig) (_ : Unit) : ℕ := lvCh (chOf g.2)

/-- Only the main cores have levels. -/
theorem L_of_ne (g : GSem nD τ sig) (h : g.1.2 ≠ .tc) : L g = ∅ := if_neg h
/-- Every semaphore of a main core has one level. -/
theorem L_tc (c : Dev nD) (sm : SemLoc sig) : L ((c : Thread nD τ), sm) = {()} := if_pos rfl
/-- The level of a cell. -/
theorem lv_cell (c : Dev nD) (h : Ch) : lv (cell c h) () = lvCh h := by unfold lv; rw [chOf_semOf]

omit [FloatOps F] in
/-- A device may wait on a semaphore while all it owes lies on higher levels. -/
theorem mayWait_of (c : Dev nD) (h : Ch) (O : CellTallies nD τ sig Unit)
    (hO : ∀ g u, 0 < O g u → ∃ d h', g = cell d h' ∧ lvCh h < lvCh h') :
    (levAts L lv : sProp 𝕄) ⊢ MayWait (c : Thread nD τ) (semOf h) () O :=
  MayOwe.of_cut (L := L) (lev := lv) (lvCh h) (fun p hp => by rw [Finset.mem_singleton.mp hp, L_tc]; exact Finset.mem_singleton_self _)
    (fun g u hg => by obtain ⟨d, h', rfl, -⟩ := hO g u hg; rw [L_tc]; exact Finset.mem_singleton_self _)
    (fun p hp => by rw [Finset.mem_singleton.mp hp]; exact (lv_cell c h).le)
    (fun g u hg => by obtain ⟨d, h', rfl, hl⟩ := hO g u hg; exact lt_of_lt_of_eq hl (lv_cell d h').symm)

end Cert.Gather

end
-- ==== Proof.Tracks.lean ====
/-
# What a device holds while it runs the steps

Every kind of step takes its chunks in order, so how far a device has come is ten numbers: for each kind, how many of
its steps are done (`St`). A chunk's part of the device's resources depends only on how many of the chunk's own steps
are done.
-/
module

public import proofs.«01_k».proof.Proof.Schedule

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## How far a device has come -/

/-- How many steps of each kind are done. -/
structure St where
  sx : ℕ
  wsx : ℕ
  rx : ℕ
  sy : ℕ
  wsy : ℕ
  wry : ℕ
  ld : ℕ
  wl : ℕ
  st : ℕ
  ws : ℕ
  deriving DecidableEq

/-- Nothing is done. -/
def St.init : St := ⟨0, 0, 0, 0, 0, 0, 0, 0, 0, 0⟩
/-- Everything is done. -/
def St.final : St := ⟨64, 64, 64, 64, 64, 64, 8, 8, 8, 8⟩

/-- The state after a step. -/
def Step.upd (σ : St) : Step → St
  | .load j => { σ with ld := j.val + 1 }
  | .waitLoad j => { σ with wl := j.val + 1 }
  | .store j => { σ with st := j.val + 1 }
  | .waitStore j => { σ with ws := j.val + 1 }
  | .sendX k => { σ with sx := k.val + 1 }
  | .waitRecvX k => { σ with rx := k.val + 1 }
  | .sendY k => { σ with sy := k.val + 1 }
  | .waitSendX k => { σ with wsx := k.val + 1 }
  | .waitSendY k => { σ with wsy := k.val + 1 }
  | .waitRecvY k => { σ with wry := k.val + 1 }

/-- A step may be made: it is its kind's next, the chunk's earlier steps are done and its later ones are not, a load
    finds its stage slot free, and a device waits for an arrival only when it owes none that could be waiting for it. -/
def Step.Ok (σ : St) : Step → Prop
  | .load j => σ.ld = j.val ∧ j.val < σ.ws + 4 ∧ σ.wl ≤ j.val ∧ σ.st ≤ j.val ∧ σ.ws ≤ j.val
  | .waitLoad j => σ.wl = j.val ∧ j.val < σ.ld ∧ σ.st ≤ j.val ∧ σ.ws ≤ j.val
  | .store j => σ.st = j.val ∧ j.val < σ.ld ∧ j.val < σ.wl ∧ σ.ws ≤ j.val
  | .waitStore j => σ.ws = j.val ∧ j.val < σ.ld ∧ j.val < σ.wl ∧ j.val < σ.st ∧ σ.ld ≤ j.val + 4
  | .sendX k => σ.sx = k.val ∧ σ.wsx ≤ k.val
  | .waitRecvX k => σ.rx = k.val ∧ σ.sy ≤ k.val ∧ σ.wsy ≤ k.val ∧ 64 ≤ σ.sx
  | .sendY k => σ.sy = k.val ∧ k.val < σ.rx ∧ σ.wsy ≤ k.val
  | .waitSendX k => σ.wsx = k.val ∧ k.val < σ.sx
  | .waitSendY k => σ.wsy = k.val ∧ k.val < σ.rx ∧ k.val < σ.sy
  | .waitRecvY k => σ.wry = k.val ∧ 64 ≤ σ.sx ∧ 64 ≤ σ.sy

instance (σ : St) (s : Step) : Decidable (s.Ok σ) := by
  cases s <;> unfold Step.Ok <;> infer_instance

/-- A list of steps may be made from a state and leads to another. -/
def leads : List Step → St → St → Bool
  | [], σ, σ' => decide (σ = σ')
  | s :: l, σ, σ' => decide (s.Ok σ) && leads l (s.upd σ) σ'

set_option maxRecDepth 100000 in
/-- The kernel's list of steps may be made, and does everything. -/
theorem leads_steps : leads steps St.init St.final = true := by decide +kernel

/-- 1 if the chunk's step of a kind with `n` steps done is done, else 0. -/
def past (n k : ℕ) : ℕ := if k < n then 1 else 0

/-- A chunk before the counter has its step done. -/
theorem past_of_lt {n k : ℕ} (h : k < n) : past n k = 1 := if_pos h
/-- A chunk from the counter on does not have its step done. -/
theorem past_of_le {n k : ℕ} (h : n ≤ k) : past n k = 0 := if_neg (Nat.not_lt.mpr h)
/-- The chunk at the counter does not have its step done. -/
theorem past_self (k : ℕ) : past k k = 0 := past_of_le (le_refl k)
/-- The chunk just before the counter has its step done. -/
theorem past_succ (k : ℕ) : past (k + 1) k = 1 := past_of_lt (Nat.lt_succ_self k)
/-- Moving the counter over a chunk changes nothing for another chunk. -/
theorem past_other {k i : ℕ} (h : i ≠ k) : past (k + 1) i = past k i := by
  unfold past; split <;> split <;> omega

/-! ## What is owed -/

/-- The arrivals on the first-axis neighbour that are owed after `n` sends. -/
def owedX (c : Dev nD) (n : ℕ) : CellTallies nD τ sig Unit :=
  ∑ k : Fin 64, if k.val < n then 0 else tallyAt (cell (px c) (.rx k)) () N64
/-- The arrivals on the second-axis neighbour that are owed after `n` sends. -/
def owedY (c : Dev nD) (n : ℕ) : CellTallies nD τ sig Unit :=
  ∑ k : Fin 64, if k.val < n then 0 else tallyAt (cell (py c) (.ry k)) () N64

/-- A sum over the chunks from the `k`-th on is the `k`-th and those after it. -/
theorem tail_succ {A : Type} [AddCommMonoid A] (f : Fin 64 → A) (k : Fin 64) :
    (∑ i : Fin 64, if i.val < k.val then 0 else f i) = (∑ i : Fin 64, if i.val < k.val + 1 then 0 else f i) + f k := by
  rw [← Finset.sum_erase_add Finset.univ (fun i : Fin 64 => if i.val < k.val then 0 else f i) (Finset.mem_univ k),
    ← Finset.sum_erase_add Finset.univ (fun i : Fin 64 => if i.val < k.val + 1 then 0 else f i) (Finset.mem_univ k),
    if_neg (Nat.lt_irrefl _), if_pos (Nat.lt_succ_self _), add_zero]
  refine congrArg (· + f k) (Finset.sum_congr rfl fun i hi => ?_)
  have h : i.val ≠ k.val := fun e => Finset.ne_of_mem_erase hi (Fin.ext e)
  by_cases h' : i.val < k.val
  · rw [if_pos h', if_pos (by omega)]
  · rw [if_neg h', if_neg (by omega)]

/-- After all chunks nothing is left of such a sum. -/
theorem tail_end {A : Type} [AddCommMonoid A] (f : Fin 64 → A) {n : ℕ} (h : 64 ≤ n) :
    (∑ i : Fin 64, if i.val < n then 0 else f i) = 0 :=
  Finset.sum_eq_zero fun i _ => if_pos (lt_of_lt_of_le i.isLt h)

/-- If such a sum of debts is not zero at a semaphore, a chunk is left and the semaphore is one of theirs. -/
theorem tail_pos (g : Fin 64 → GSem nD τ sig) {n N : ℕ} {x : GSem nD τ sig} {u : Unit}
    (h : 0 < (∑ i : Fin 64, if i.val < n then 0 else tallyAt (g i) () N : CellTallies nD τ sig Unit) x u) :
    n < 64 ∧ ∃ i, x = g i := by
  by_contra hn
  refine absurd h (Nat.not_lt.mpr (Nat.le_of_eq ?_))
  by_cases h64 : 64 ≤ n
  · rw [tail_end _ h64]; rfl
  rw [Finset.sum_apply, Finsupp.finset_sum_apply]
  refine Finset.sum_eq_zero fun i _ => ?_
  by_cases hi : i.val < n
  · rw [if_pos hi]; rfl
  · rw [if_neg hi, tallyAt_apply, if_neg fun e => hn ⟨by omega, i, e.1⟩]

/-- All that is owed in a state. -/
def owed (c : Dev nD) (a b : ℕ) : CellTallies nD τ sig Unit := owedX c a + owedY c b

/-- What a device still owes is owed to arrivals along an axis on which it has chunks left to send. -/
theorem owed_pos {c : Dev nD} {a b : ℕ} {g : GSem nD τ sig} {u : Unit} (h : 0 < owed c a b g u) :
    (a < 64 ∧ ∃ k, g = cell (px c) (.rx k)) ∨ (b < 64 ∧ ∃ k, g = cell (py c) (.ry k)) := by
  unfold owed at h
  rw [Pi.add_apply, Finsupp.add_apply] at h
  rcases Nat.eq_zero_or_pos (owedX c a g u) with h0 | h0
  · rw [h0, Nat.zero_add] at h; exact .inr (tail_pos _ h)
  · exact .inl (tail_pos _ h0)

/-- After all sends nothing is owed. -/
theorem owed_end (c : Dev nD) : owed c 64 64 = 0 := by
  unfold owed owedX owedY; rw [tail_end _ (le_refl _), tail_end _ (le_refl _), add_zero]
/-- A send along the first axis pays for its arrival. -/
theorem owed_sendX (c : Dev nD) (k : Fin 64) (b : ℕ) :
    owed c k.val b = owed c (k.val + 1) b + tallyAt (cell (px c) (.rx k)) () N64 := by
  unfold owed owedX; rw [tail_succ, add_right_comm]
/-- A send along the second axis pays for its arrival. -/
theorem owed_sendY (c : Dev nD) (a : ℕ) (k : Fin 64) :
    owed c a k.val = owed c a (k.val + 1) + tallyAt (cell (py c) (.ry k)) () N64 := by
  unfold owed owedY; rw [tail_succ, add_assoc]

/-- What a device owes lies above every level below 2, above 2 once all of the first axis is sent, and is nothing once
    all is sent. -/
theorem owed_level {c : Dev nD} {a b : ℕ} {h : Ch} (hl : lvCh h < 2 ∨ (64 ≤ a ∧ lvCh h < 3) ∨ (64 ≤ a ∧ 64 ≤ b))
    (g : GSem nD τ sig) (u : Unit) (hg : 0 < owed c a b g u) : ∃ d h', g = cell d h' ∧ lvCh h < lvCh h' := by
  rcases owed_pos hg with ⟨ha, k, rfl⟩ | ⟨hb, k, rfl⟩
  · refine ⟨_, _, rfl, ?_⟩
    show lvCh h < 2
    omega
  · refine ⟨_, _, rfl, ?_⟩
    show lvCh h < 3
    omega

/-! ## The tracks -/

variable (m : (ℓ : Loc nD τ sig) → Buf (Elt F) ℓ)

/-- The owner's place at the semaphore `h`: its round not yet taken, or taken. -/
abbrev pos0 (c : Dev nD) (h : Ch) : sProp 𝕄 := atPos ER (cell c h) 0 ∅ 0
/-- The owner's place at the semaphore `h` after its round is taken. -/
abbrev pos1 (c : Dev nD) (h : Ch) : sProp 𝕄 := atPos ER (cell c h) 1 ∅ 0
/-- The right to signal a transfer's semaphore. -/
abbrev tok (c : Dev nD) (h : Ch) : sProp 𝕄 := dutyTok ER (cell c h) 0 false
/-- The credit to wait for a transfer. -/
abbrev crd (c : Dev nD) (h : Ch) : sProp 𝕄 := cred (tallyAt (cell c h) () (amt h))

/-- Chunk `k` sent along the first axis, after its send and the wait for it. -/
def tX (c : Dev nD) (k : Fin 64) : ℕ → sProp 𝕄
  | 0 => iprop(xPts m c qS (srcX c k).view.set ∗ oldPts m (px c) (outX c k).view.set ∗ tok c (.sx k) ∗ tok (px c) (.rx k) ∗ pos0 c (.sx k))
  | 1 => iprop(crd c (.sx k) ∗ pos0 c (.sx k))
  | _ + 2 => iprop(xPts m c qS (srcX c k).view.set ∗ pos1 c (.sx k))

/-- What passing chunk `k` on needs besides the chunk. -/
def fwd (c : Dev nD) (k : Fin 64) : sProp 𝕄 :=
  iprop(oldPts m (py c) (outY c k).view.set ∗ tok c (.sy k) ∗ tok (py c) (.ry k) ∗ pos0 c (.sy k))

/-- Chunk `k` received along the first axis, after its arrival, its passing on and the wait for that. -/
def tR (c : Dev nD) (k : Fin 64) : ℕ → sProp 𝕄
  | 0 => iprop(crd c (.rx k) ∗ pos0 c (.rx k) ∗ fwd m c k)
  | 1 => iprop(newPts m c (outX (px c) k).view.set ∗ pos1 c (.rx k) ∗ fwd m c k)
  | 2 => iprop(crd c (.sy k) ∗ pos0 c (.sy k) ∗ pos1 c (.rx k))
  | _ + 3 => iprop(newPts m c (outX (px c) k).view.set ∗ pos1 c (.sy k) ∗ pos1 c (.rx k))

/-- Chunk `k` received along the second axis, after its arrival. -/
def tY (c : Dev nD) (k : Fin 64) : ℕ → sProp 𝕄
  | 0 => iprop(crd c (.ry k) ∗ pos0 c (.ry k))
  | _ + 1 => iprop(newPts m c (outY (py c) k).view.set ∗ pos1 c (.ry k))

/-- What storing chunk `j` needs besides the filled stage slot. -/
def sto (c : Dev nD) (j : Fin 8) : sProp 𝕄 := iprop(oldPts m c (outL c j).view.set ∗ tok c (.st j) ∗ pos0 c (.st j))

/-- Chunk `j` of the local copy, after its load, the wait for that, its store and the wait for that. -/
def tL (c : Dev nD) (j : Fin 8) : ℕ → sProp 𝕄
  | 0 => iprop(xPts m c qL (srcL j).view.set ∗ tok c (.ld j) ∗ pos0 c (.ld j) ∗ sto m c j)
  | 1 => iprop(crd c (.ld j) ∗ pos0 c (.ld j) ∗ sto m c j)
  | 2 => iprop(filled m c j ∗ xPts m c qL (srcL j).view.set ∗ pos1 c (.ld j) ∗ sto m c j)
  | 3 => iprop(crd c (.st j) ∗ pos0 c (.st j) ∗ xPts m c qL (srcL j).view.set ∗ pos1 c (.ld j))
  | _ + 4 => iprop(newPts m c (outL c j).view.set ∗ pos1 c (.st j) ∗ xPts m c qL (srcL j).view.set ∗ pos1 c (.ld j))

/-- The elements of a stage slot. -/
def slotSet (q : ℕ) : Finset S4x1024x1024.Idx := Finset.univ.filter fun i => (i 0).val = q % 4

/-- A slot's elements are those of the slot of any chunk it serves. -/
theorem slotSet_eq (j : Fin 8) {q : ℕ} (h : q % 4 = j.val % 4) : slotSet q = (slot j).view.set :=
  Finset.ext fun i => Finset.mem_filter.trans ((and_iff_right (Finset.mem_univ i)).trans (by rw [h]; exact (mem_slot j i).symm))

/-- The stage slot for load `q`: not free yet, free, or taken. -/
def tS (c : Dev nD) (q : Fin 12) : ℕ → sProp 𝕄
  | 0 => iprop(emp)
  | 1 => stPts c (slotSet q.val)
  | _ + 2 => iprop(emp)

/-- All that a device holds in a state. -/
def Res (c : Dev nD) (σ : St) : sProp 𝕄 :=
  iprop((∃ W, owes (c : Thread nD τ) (owed c σ.sx σ.sy) W)
    ∗ bigSep Finset.univ (fun k : Fin 64 => tX m c k (past σ.sx k.val + past σ.wsx k.val))
    ∗ bigSep Finset.univ (fun k : Fin 64 => tR m c k (past σ.rx k.val + past σ.sy k.val + past σ.wsy k.val))
    ∗ bigSep Finset.univ (fun k : Fin 64 => tY m c k (past σ.wry k.val))
    ∗ bigSep Finset.univ (fun j : Fin 8 => tL m c j (past σ.ld j.val + past σ.wl j.val + past σ.st j.val + past σ.ws j.val))
    ∗ bigSep Finset.univ (fun q : Fin 12 => tS c q (past (σ.ws + 4) q.val + past σ.ld q.val)))

/-- What all devices know: every semaphore follows the schedule and its round is open, and the levels. -/
def ctx (K : Dev nD × Ch → ℕ) : sProp 𝕄 :=
  iprop((bigSep Finset.univ fun x : Dev nD × Ch => cellInv ER (Rd m) (K x) (cell x.1 x.2))
    ∗ (bigSep Finset.univ fun x : Dev nD × Ch => reached ER (cell x.1 x.2) 0) ∗ levAts L lv)

omit [FloatOps F] in
instance ctx_persistent (K : Dev nD × Ch → ℕ) : BI.Persistent (ctx (F := F) m K) := by unfold ctx; infer_instance

omit [FloatOps F] in
/-- Each semaphore follows the schedule. -/
theorem inv_at (K : Dev nD × Ch → ℕ) (c : Dev nD) (h : Ch) : ctx (F := F) m K ⊢ cellInv ER (Rd m) (K (c, h)) (cell c h) := by
  have e : (bigSep Finset.univ fun x : Dev nD × Ch => (cellInv ER (Rd m) (K x) (cell x.1 x.2) : sProp 𝕄))
      ⊢ cellInv ER (Rd m) (K (c, h)) (cell c h) := bigSep_elim (Finset.mem_univ (c, h))
  unfold ctx
  iintro ⟨H, -⟩
  iapply e
  iexact H
omit [FloatOps F] in
/-- Each semaphore's round is open. -/
theorem reached_at (K : Dev nD × Ch → ℕ) (c : Dev nD) (h : Ch) : ctx (F := F) m K ⊢ reached ER (cell c h) 0 := by
  have e : (bigSep Finset.univ fun x : Dev nD × Ch => (reached ER (cell x.1 x.2) 0 : sProp 𝕄)) ⊢ reached ER (cell c h) 0 :=
    bigSep_elim (Finset.mem_univ (c, h))
  unfold ctx
  iintro ⟨-, H, -⟩
  iapply e
  iexact H
omit [FloatOps F] in
/-- The levels are known. -/
theorem lev_at (K : Dev nD × Ch → ℕ) : ctx (F := F) m K ⊢ levAts L lv := by
  unfold ctx
  iintro ⟨-, -, H⟩
  iexact H

omit [FloatOps F] in
/-- One member of a family of tracks moves on. -/
theorem fam_step {n : ℕ} (T : Fin n → ℕ → sProp 𝕄) (f f' : Fin n → ℕ) (k : Fin n) (a b : ℕ) (ha : f k = a) (hb : f' k = b)
    (ho : ∀ i : Fin n, i.val ≠ k.val → f' i = f i) :
    bigSep Finset.univ (fun i => T i (f i)) ⊢ iprop(T k a ∗ (T k b -∗ bigSep Finset.univ fun i => T i (f' i))) := by
  subst ha hb
  exact bigSep_univ_update (Φ := fun i => T i (f i)) (Ψ := fun i => T i (f' i)) k
    fun i hi => congrArg (T i) (ho i fun e => hi (Fin.ext e))

end Cert.Gather

end
-- ==== Proof.Waits.lean ====
/-
# The waits

A wait for a transfer brings what its semaphore hands over. Each theorem moves one chunk's track on by one.
-/
module

public import proofs.«01_k».proof.Proof.Tracks

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program has no loops that need a variant. -/
abbrev 𝒱₀ : Variants := Variants.none

/-- The rest of the body, as a goal. -/
abbrev goal (c : Dev nD) (P : Pr F) (Q : PUnit → sProp 𝕄) : sProp 𝕄 :=
  wp frame (wpE (defs₀ (F := F)) 𝒱₀ (c : Thread nD τ) none) Set.univ P Q

/-- A device that owes nothing the semaphore could depend on waits for a transfer and gets what it hands over. -/
theorem wp_await (K : Dev nD × Ch → ℕ) (c : Dev nD) (h : Ch) (hd : duty h = {false}) {q : DmaSem sig} (hq : semOf h = .dma q)
    {sp sp' : Space} {s s' : Shape} {e e' : EltTy} {src : Memref sig .tc sp' s' e'} {dst : Memref sig .tc sp s e}
    {hsrc : src.view.WordExact} {hdst : dst.view.WordExact} (hN : dst.view.dmaCredit = amt h) (a b : ℕ)
    (hl : lvCh h < 2 ∨ (64 ≤ a ∧ lvCh h < 3) ∨ (64 ≤ a ∧ 64 ≤ b)) (P : Pr F) (Q : PUnit → sProp 𝕄) :
    iprop(ctx m K ∗ (∃ W, owes (c : Thread nD τ) (owed c a b) W) ∗ crd c h ∗ pos0 c h)
      ⊢ iprop((((∃ W, owes (c : Thread nD τ) (owed c a b) W) ∗ pos1 c h ∗ pay m c h false) -∗ goal c P Q)
          -∗ goal c (.op (.waitDma2 q src dst hsrc hdst) fun _ => P) Q) := by
  iintro ⟨#Hc, ⟨%W, HO⟩, Hcr, Hat⟩ Hk
  ihave #Hinv := (inv_at m K c h) $$ Hc
  ihave #Hlev := (lev_at m K) $$ Hc
  have hw := fun K' : PUnit → sProp 𝕄 => wpE_waitDma2_eq (defs := defs₀ (F := F)) 𝒱₀ (c : Thread nD τ) none Set.univ
    (sem := q) (src := src) (dst := dst) (hsrc := hsrc) (hdst := hdst) K'
  rw [← hq, hN] at hw
  iapply (Rounds.wp_wait_rest_token 𝒱₀ ER (Rd m) (c : Thread nD τ) none (κ := K (c, h)) hw (Set.mem_univ _) ()
    (O := owed c a b) (W := W) (R := 0) (m := 0) (T := ∅) (by rw [Nat.zero_add]; exact (expect_cell m c h hd).symm)) $$ [HO Hcr Hat]
  · isplitr; · iexact Hinv
    isplitl [Hcr]; · iexact Hcr
    isplitl [HO]; · iexact HO
    isplitr; · iapply (mayWait_of c h _ (owed_level hl)); iexact Hlev
    iexact Hat
  iintro ⟨HO, Hat, -, Hpay⟩
  ihave Hp := (Entails.of_eq (rest_cell m c h hd)) $$ Hpay
  iapply Hk
  isplitl [HO]; · iexists _; iexact HO
  isplitl [Hat]; · iexact Hat
  iexact Hp

/-- A chunk sent along the first axis comes back. -/
theorem step_waitSendX (K : Dev nD × Ch → ℕ) (c : Dev nD) (σ : St) (k : Fin 64) (h : (Step.waitSendX k).Ok σ) (P : Pr F)
    (Q : PUnit → sProp 𝕄) :
    iprop(ctx m K ∗ Res m c σ)
      ⊢ iprop((Res m c ((Step.waitSendX k).upd σ) -∗ goal c P Q) -∗ goal c ((Step.waitSendX k).andThen c P) Q) := by
  obtain ⟨h1, h2⟩ := h
  unfold Res Step.andThen Step.upd
  iintro ⟨#Hc, HO, HX, HR, HY, HL, HS⟩ Hk
  ihave HX' := (fam_step (tX m c) _ (fun i => past σ.sx i.val + past (k.val + 1) i.val) k 1 2
    (by rw [h1, past_of_lt h2, past_self]) (by rw [past_of_lt h2, past_succ])
    (fun i hi => by rw [past_other hi, h1])) $$ HX
  icases HX' with ⟨HXk, HX⟩
  icases (show tX m c k 1 ⊢ iprop(crd c (.sx k) ∗ pos0 c (.sx k)) from BI.Entails.refl _) $$ HXk with ⟨Hcr, Hat⟩
  iapply (wp_await m K c (.sx k) rfl rfl (credit_srcX c k) σ.sx σ.sy (.inl Nat.zero_lt_two) P Q) $$ [HO Hcr Hat]
  · isplitr; · iexact Hc
    isplitl [HO]; · iexact HO
    isplitl [Hcr]; · iexact Hcr
    iexact Hat
  iintro ⟨HO, Hat, Hpay⟩
  iapply Hk
  isplitl [HO]; · iexact HO
  isplitl [HX Hat Hpay]
  · iapply HX
    iapply (show iprop(pay m c (.sx k) false ∗ pos1 c (.sx k)) ⊢ tX m c k 2 from BI.Entails.refl _)
    isplitl [Hpay]; · iexact Hpay
    iexact Hat
  isplitl [HR]; · iexact HR
  isplitl [HY]; · iexact HY
  isplitl [HL] <;> iassumption

/-- A chunk of the first-axis neighbour has arrived. -/
theorem step_waitRecvX (K : Dev nD × Ch → ℕ) (c : Dev nD) (σ : St) (k : Fin 64) (h : (Step.waitRecvX k).Ok σ) (P : Pr F)
    (Q : PUnit → sProp 𝕄) :
    iprop(ctx m K ∗ Res m c σ)
      ⊢ iprop((Res m c ((Step.waitRecvX k).upd σ) -∗ goal c P Q) -∗ goal c ((Step.waitRecvX k).andThen c P) Q) := by
  obtain ⟨h1, h2, h3, h4⟩ := h
  unfold Res Step.andThen Step.upd
  iintro ⟨#Hc, HO, HX, HR, HY, HL, HS⟩ Hk
  ihave HR' := (fam_step (tR m c) _ (fun i => past (k.val + 1) i.val + past σ.sy i.val + past σ.wsy i.val) k 0 1
    (by rw [h1, past_self, past_of_le h2, past_of_le h3]) (by rw [past_succ, past_of_le h2, past_of_le h3])
    (fun i hi => by rw [past_other hi, h1])) $$ HR
  icases HR' with ⟨HRk, HR⟩
  icases (show tR m c k 0 ⊢ iprop(crd c (.rx k) ∗ pos0 c (.rx k) ∗ fwd m c k) from BI.Entails.refl _) $$ HRk with ⟨Hcr, Hat, Hf⟩
  iapply (wp_await m K c (.rx k) rfl rfl (credit_outX c k) σ.sx σ.sy (.inr (.inl ⟨h4, Nat.lt_succ_self 2⟩)) P Q) $$ [HO Hcr Hat]
  · isplitr; · iexact Hc
    isplitl [HO]; · iexact HO
    isplitl [Hcr]; · iexact Hcr
    iexact Hat
  iintro ⟨HO, Hat, Hpay⟩
  iapply Hk
  isplitl [HO]; · iexact HO
  isplitl [HX]; · iexact HX
  isplitl [HR Hat Hpay Hf]
  · iapply HR
    iapply (show iprop(pay m c (.rx k) false ∗ pos1 c (.rx k) ∗ fwd m c k) ⊢ tR m c k 1 from BI.Entails.refl _)
    isplitl [Hpay]; · iexact Hpay
    isplitl [Hat]; · iexact Hat
    iexact Hf
  isplitl [HY]; · iexact HY
  isplitl [HL] <;> iassumption

/-- A chunk passed on along the second axis comes back. -/
theorem step_waitSendY (K : Dev nD × Ch → ℕ) (c : Dev nD) (σ : St) (k : Fin 64) (h : (Step.waitSendY k).Ok σ) (P : Pr F)
    (Q : PUnit → sProp 𝕄) :
    iprop(ctx m K ∗ Res m c σ)
      ⊢ iprop((Res m c ((Step.waitSendY k).upd σ) -∗ goal c P Q) -∗ goal c ((Step.waitSendY k).andThen c P) Q) := by
  obtain ⟨h1, h2, h3⟩ := h
  unfold Res Step.andThen Step.upd
  iintro ⟨#Hc, HO, HX, HR, HY, HL, HS⟩ Hk
  ihave HR' := (fam_step (tR m c) _ (fun i => past σ.rx i.val + past σ.sy i.val + past (k.val + 1) i.val) k 2 3
    (by rw [h1, past_of_lt h2, past_of_lt h3, past_self]) (by rw [past_of_lt h2, past_of_lt h3, past_succ])
    (fun i hi => by rw [past_other hi, h1])) $$ HR
  icases HR' with ⟨HRk, HR⟩
  icases (show tR m c k 2 ⊢ iprop(crd c (.sy k) ∗ pos0 c (.sy k) ∗ pos1 c (.rx k)) from BI.Entails.refl _) $$ HRk with ⟨Hcr, Hat, Hf⟩
  iapply (wp_await m K c (.sy k) rfl rfl (credit_outY c k) σ.sx σ.sy (.inl Nat.zero_lt_two) P Q) $$ [HO Hcr Hat]
  · isplitr; · iexact Hc
    isplitl [HO]; · iexact HO
    isplitl [Hcr]; · iexact Hcr
    iexact Hat
  iintro ⟨HO, Hat, Hpay⟩
  ihave Hpay' := (show pay m c (.sy k) false ⊢ newPts m c (outX (px c) k).view.set from
    Entails.of_eq (congrArg (newPts m c) (set_outY c k))) $$ Hpay
  iapply Hk
  isplitl [HO]; · iexact HO
  isplitl [HX]; · iexact HX
  isplitl [HR Hat Hpay' Hf]
  · iapply HR
    iapply (show iprop(newPts m c (outX (px c) k).view.set ∗ pos1 c (.sy k) ∗ pos1 c (.rx k)) ⊢ tR m c k 3 from BI.Entails.refl _)
    isplitl [Hpay']; · iexact Hpay'
    isplitl [Hat]; · iexact Hat
    iexact Hf
  isplitl [HY]; · iexact HY
  isplitl [HL] <;> iassumption

/-- A chunk of the second-axis neighbour has arrived. -/
theorem step_waitRecvY (K : Dev nD × Ch → ℕ) (c : Dev nD) (σ : St) (k : Fin 64) (h : (Step.waitRecvY k).Ok σ) (P : Pr F)
    (Q : PUnit → sProp 𝕄) :
    iprop(ctx m K ∗ Res m c σ)
      ⊢ iprop((Res m c ((Step.waitRecvY k).upd σ) -∗ goal c P Q) -∗ goal c ((Step.waitRecvY k).andThen c P) Q) := by
  obtain ⟨h1, h2, h3⟩ := h
  unfold Res Step.andThen Step.upd
  iintro ⟨#Hc, HO, HX, HR, HY, HL, HS⟩ Hk
  ihave HY' := (fam_step (tY m c) _ (fun i => past (k.val + 1) i.val) k 0 1 (by rw [h1, past_self]) (past_succ _)
    (fun i hi => by rw [past_other hi, h1])) $$ HY
  icases HY' with ⟨HYk, HY⟩
  icases (show tY m c k 0 ⊢ iprop(crd c (.ry k) ∗ pos0 c (.ry k)) from BI.Entails.refl _) $$ HYk with ⟨Hcr, Hat⟩
  iapply (wp_await m K c (.ry k) rfl rfl (credit_outY c k) σ.sx σ.sy (.inr (.inr ⟨h2, h3⟩)) P Q) $$ [HO Hcr Hat]
  · isplitr; · iexact Hc
    isplitl [HO]; · iexact HO
    isplitl [Hcr]; · iexact Hcr
    iexact Hat
  iintro ⟨HO, Hat, Hpay⟩
  iapply Hk
  isplitl [HO]; · iexact HO
  isplitl [HX]; · iexact HX
  isplitl [HR]; · iexact HR
  isplitl [HY Hat Hpay]
  · iapply HY
    iapply (show iprop(pay m c (.ry k) false ∗ pos1 c (.ry k)) ⊢ tY m c k 1 from BI.Entails.refl _)
    isplitl [Hpay]; · iexact Hpay
    iexact Hat
  isplitl [HL] <;> iassumption

/-- A load is done. -/
theorem step_waitLoad (K : Dev nD × Ch → ℕ) (c : Dev nD) (σ : St) (j : Fin 8) (h : (Step.waitLoad j).Ok σ) (P : Pr F)
    (Q : PUnit → sProp 𝕄) :
    iprop(ctx m K ∗ Res m c σ)
      ⊢ iprop((Res m c ((Step.waitLoad j).upd σ) -∗ goal c P Q) -∗ goal c ((Step.waitLoad j).andThen c P) Q) := by
  obtain ⟨h1, h2, h3, h4⟩ := h
  unfold Res Step.andThen Step.upd
  iintro ⟨#Hc, HO, HX, HR, HY, HL, HS⟩ Hk
  ihave HL' := (fam_step (tL m c) _ (fun i => past σ.ld i.val + past (j.val + 1) i.val + past σ.st i.val + past σ.ws i.val) j 1 2
    (by rw [h1, past_of_lt h2, past_self, past_of_le h3, past_of_le h4])
    (by rw [past_of_lt h2, past_succ, past_of_le h3, past_of_le h4])
    (fun i hi => by rw [past_other hi, h1])) $$ HL
  icases HL' with ⟨HLj, HL⟩
  icases (show tL m c j 1 ⊢ iprop(crd c (.ld j) ∗ pos0 c (.ld j) ∗ sto m c j) from BI.Entails.refl _) $$ HLj with ⟨Hcr, Hat, Hs⟩
  iapply (wp_await m K c (.ld j) rfl rfl (credit_slot j) σ.sx σ.sy (.inl Nat.zero_lt_two) P Q) $$ [HO Hcr Hat]
  · isplitr; · iexact Hc
    isplitl [HO]; · iexact HO
    isplitl [Hcr]; · iexact Hcr
    iexact Hat
  iintro ⟨HO, Hat, Hpay⟩
  icases (show pay m c (.ld j) false ⊢ iprop(filled m c j ∗ xPts m c qL (srcL j).view.set) from BI.Entails.refl _) $$ Hpay with ⟨Hf, Hx⟩
  iapply Hk
  isplitl [HO]; · iexact HO
  isplitl [HX]; · iexact HX
  isplitl [HR]; · iexact HR
  isplitl [HY]; · iexact HY
  isplitl [HL Hat Hf Hx Hs]
  · iapply HL
    iapply (show iprop(filled m c j ∗ xPts m c qL (srcL j).view.set ∗ pos1 c (.ld j) ∗ sto m c j) ⊢ tL m c j 2 from BI.Entails.refl _)
    isplitl [Hf]; · iexact Hf
    isplitl [Hx]; · iexact Hx
    isplitl [Hat]; · iexact Hat
    iexact Hs
  iexact HS

/-- The load that uses chunk `j`'s stage slot next. -/
def ahead (j : Fin 8) : Fin 12 := ⟨j.val + 4, Nat.add_lt_add_right j.isLt 4⟩

/-- A store is done: the stage slot is free for the load four chunks on. -/
theorem step_waitStore (K : Dev nD × Ch → ℕ) (c : Dev nD) (σ : St) (j : Fin 8) (h : (Step.waitStore j).Ok σ) (P : Pr F)
    (Q : PUnit → sProp 𝕄) :
    iprop(ctx m K ∗ Res m c σ)
      ⊢ iprop((Res m c ((Step.waitStore j).upd σ) -∗ goal c P Q) -∗ goal c ((Step.waitStore j).andThen c P) Q) := by
  obtain ⟨h1, h2, h3, h4, h5⟩ := h
  unfold Res Step.andThen Step.upd
  iintro ⟨#Hc, HO, HX, HR, HY, HL, HS⟩ Hk
  ihave HL' := (fam_step (tL m c) _ (fun i => past σ.ld i.val + past σ.wl i.val + past σ.st i.val + past (j.val + 1) i.val) j 3 4
    (by rw [h1, past_of_lt h2, past_of_lt h3, past_of_lt h4, past_self])
    (by rw [past_of_lt h2, past_of_lt h3, past_of_lt h4, past_succ])
    (fun i hi => by rw [past_other hi, h1])) $$ HL
  icases HL' with ⟨HLj, HL⟩
  ihave HS' := (fam_step (tS c) _ (fun i => past (j.val + 1 + 4) i.val + past σ.ld i.val) (ahead j) 0 1
    (by rw [h1]; unfold ahead; rw [past_self, past_of_le h5]) (by unfold ahead; rw [past_of_lt (by show j.val + 4 < _; omega), past_of_le h5])
    (fun i hi => by rw [h1]; exact congrArg (· + _) ((congrArg (past · i.val) (by omega)).trans (past_other hi)))) $$ HS
  icases HS' with ⟨-, HS⟩
  icases (show tL m c j 3 ⊢ iprop(crd c (.st j) ∗ pos0 c (.st j) ∗ xPts m c qL (srcL j).view.set ∗ pos1 c (.ld j)) from BI.Entails.refl _) $$ HLj
    with ⟨Hcr, Hat, Hx, Hl⟩
  iapply (wp_await m K c (.st j) rfl rfl (credit_outL c j) σ.sx σ.sy (.inl Nat.zero_lt_two) P Q) $$ [HO Hcr Hat]
  · isplitr; · iexact Hc
    isplitl [HO]; · iexact HO
    isplitl [Hcr]; · iexact Hcr
    iexact Hat
  iintro ⟨HO, Hat, Hpay⟩
  icases (show pay m c (.st j) false ⊢ iprop(newPts m c (outL c j).view.set ∗ stPts c (slot j).view.set) from BI.Entails.refl _) $$ Hpay with ⟨Hn, Hs⟩
  iapply Hk
  isplitl [HO]; · iexact HO
  isplitl [HX]; · iexact HX
  isplitl [HR]; · iexact HR
  isplitl [HY]; · iexact HY
  isplitl [HL Hat Hn Hx Hl]
  · iapply HL
    iapply (show iprop(newPts m c (outL c j).view.set ∗ pos1 c (.st j) ∗ xPts m c qL (srcL j).view.set ∗ pos1 c (.ld j)) ⊢ tL m c j 4 from BI.Entails.refl _)
    isplitl [Hn]; · iexact Hn
    isplitl [Hat]; · iexact Hat
    isplitl [Hx]; · iexact Hx
    iexact Hl
  iapply HS
  iapply (show stPts c (slot j).view.set ⊢ tS c (ahead j) 1 from
    Entails.of_eq (congrArg (stPts c) (slotSet_eq j (Nat.add_mod_right j.val 4)).symm))
  iexact Hs

end Cert.Gather

end
-- ==== Proof.Sends.lean ====
/- # The transfers

A transfer takes what it reads and what it writes, and its semaphores' instalments carry both on. Each theorem moves one
chunk's track on by one.
-/
module

public import proofs.«01_k».proof.Proof.Waits

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A transfer semaphore has the one instalment. -/
theorem false_mem {h : Ch} (c : Dev nD) (hd : duty h = {false}) : false ∈ (Rd (F := F) m).duties (cell c h) 0 := by
  rw [duties_cell, hd]; exact Finset.mem_singleton_self _

/-- A chunk of the argument is sent to the first-axis neighbour. -/
theorem wp_sendX (K : Dev nD × Ch → ℕ) (c : Dev nD) (k : Fin 64) (b : ℕ) (P : Pr F) (Q : PUnit → sProp 𝕄) :
    iprop(ctx m K ∗ (∃ W, owes (c : Thread nD τ) (owed c k.val b) W) ∗ xPts m c qS (srcX c k).view.set
        ∗ oldPts m (px c) (outX c k).view.set ∗ tok c (.sx k) ∗ tok (px c) (.rx k))
      ⊢ iprop((((∃ W, owes (c : Thread nD τ) (owed c (k.val + 1) b) W) ∗ crd c (.sx k)) -∗ goal c P Q)
          -∗ goal c ((Step.sendX k).andThen c P) Q) := by
  unfold Step.andThen xPts oldPts
  iintro ⟨#Hc, ⟨%W, HO⟩, Hx, Ho, Ht, Ht'⟩ Hk
  ihave #HI := (inv_at m K c (.sx k)) $$ Hc
  ihave #HI' := (inv_at m K (px c) (.rx k)) $$ Hc
  ihave #Hr := (reached_at m K c (.sx k)) $$ Hc
  ihave #Hr' := (reached_at m K (px c) (.rx k)) $$ Hc
  iapply (Rounds.wp_send_pointsTo 𝒱₀ ER (Rd m) (c : Thread nD τ) none (c' := (px c : Thread nD τ)) (src := srcX c k) (dst := outX c k)
    (sS := semOf (.sx k)) (sem := semOf (.rx k)) (κ₁ := K (c, .sx k)) (κ₂ := K (px c, .rx k)) (r₁ := 0) (r₂ := 0) (d₁ := false) (d₂ := false)
    (fs := m ((c : Thread nD τ).loc main_arg0)) (fd := m ((px c : Thread nD τ).loc main_v1)) (q := qS)
    (false_mem m c rfl) (false_mem m (px c) rfl)
    () () N64 (credit_outX c k) (amount_cell m c (.sx k) false) (amount_cell m (px c) (.rx k) false) (owed c (k.val + 1) b) (owed_sendX c k b) (W := W)
    (Entails.of_eq (payload_cell m c (.sx k) false).symm)
    ((Entails.of_eq ((pointsTo_congr (landed_X m c k _)).trans (congrArg (newPts m (px c))
      (show (outX c k).view.set = (outX (px (px c)) k).view.set by rw [px_px])))).trans
      (Entails.of_eq (payload_cell m (px c) (.rx k) false).symm))) $$ [HO Hx Ho Ht Ht']
  · isplitr; · iexact HI
    isplitr; · iexact HI'
    isplitl [Hx]; · iexact Hx
    isplitl [Ho]; · iexact Ho
    isplitl [HO]; · iexact HO
    isplitl [Ht]; · iexact Ht
    isplitr; · iexact Hr
    isplitl [Ht']; · iexact Ht'
    iexact Hr'
  iintro ⟨Hcr, HO⟩
  iapply Hk
  isplitl [HO]; · iexists _; iexact HO
  iexact Hcr

/-- A chunk received from the first-axis neighbour is passed on to the second-axis one. -/
theorem wp_sendY (K : Dev nD × Ch → ℕ) (c : Dev nD) (k : Fin 64) (a : ℕ) (P : Pr F) (Q : PUnit → sProp 𝕄) :
    iprop(ctx m K ∗ (∃ W, owes (c : Thread nD τ) (owed c a k.val) W) ∗ newPts m c (outX (px c) k).view.set
        ∗ oldPts m (py c) (outY c k).view.set ∗ tok c (.sy k) ∗ tok (py c) (.ry k))
      ⊢ iprop((((∃ W, owes (c : Thread nD τ) (owed c a (k.val + 1)) W) ∗ crd c (.sy k)) -∗ goal c P Q)
          -∗ goal c ((Step.sendY k).andThen c P) Q) := by
  unfold Step.andThen newPts oldPts
  iintro ⟨#Hc, ⟨%W, HO⟩, Hx, Ho, Ht, Ht'⟩ Hk
  ihave #HI := (inv_at m K c (.sy k)) $$ Hc
  ihave #HI' := (inv_at m K (py c) (.ry k)) $$ Hc
  ihave #Hr := (reached_at m K c (.sy k)) $$ Hc
  ihave #Hr' := (reached_at m K (py c) (.ry k)) $$ Hc
  ihave Hx' := (Entails.of_eq (congrArg (fun S => (((c : Thread nD τ).loc main_v1) ↦[S]{fullShare} outAt m c : sProp 𝕄)) (set_outY c k).symm)) $$ Hx
  iapply (Rounds.wp_send_pointsTo 𝒱₀ ER (Rd m) (c : Thread nD τ) none (c' := (py c : Thread nD τ)) (src := outY c k) (dst := outY c k)
    (sS := semOf (.sy k)) (sem := semOf (.ry k)) (κ₁ := K (c, .sy k)) (κ₂ := K (py c, .ry k)) (r₁ := 0) (r₂ := 0) (d₁ := false) (d₂ := false)
    (fs := outAt m c) (fd := m ((py c : Thread nD τ).loc main_v1)) (q := fullShare)
    (false_mem m c rfl) (false_mem m (py c) rfl)
    () () N64 (credit_outY c k) (amount_cell m c (.sy k) false) (amount_cell m (py c) (.ry k) false) (owed c a (k.val + 1)) (owed_sendY c a k) (W := W)
    (Entails.of_eq (payload_cell m c (.sy k) false).symm)
    ((Entails.of_eq ((pointsTo_congr (landed_Y m c k _)).trans (congrArg (newPts m (py c))
      (show (outY c k).view.set = (outY (py (py c)) k).view.set by rw [py_py])))).trans
      (Entails.of_eq (payload_cell m (py c) (.ry k) false).symm))) $$ [HO Hx' Ho Ht Ht']
  · isplitr; · iexact HI
    isplitr; · iexact HI'
    isplitl [Hx']; · iexact Hx'
    isplitl [Ho]; · iexact Ho
    isplitl [HO]; · iexact HO
    isplitl [Ht]; · iexact Ht
    isplitr; · iexact Hr
    isplitl [Ht']; · iexact Ht'
    iexact Hr'
  iintro ⟨Hcr, HO⟩
  iapply Hk
  isplitl [HO]; · iexists _; iexact HO
  iexact Hcr

/-- A chunk of the argument is loaded into its stage slot. -/
theorem wp_load (K : Dev nD × Ch → ℕ) (c : Dev nD) (j : Fin 8) (P : Pr F) (Q : PUnit → sProp 𝕄) :
    iprop(ctx m K ∗ xPts m c qL (srcL j).view.set ∗ stPts c (slot j).view.set ∗ tok c (.ld j))
      ⊢ iprop((crd c (.ld j) -∗ goal c P Q) -∗ goal c ((Step.load j).andThen c P) Q) := by
  unfold Step.andThen xPts
  iintro ⟨#Hc, Hx, Hs, Ht⟩ Hk
  icases (show stPts (F := F) c (slot j).view.set ⊢ iprop(∃ f : Buf (Elt F) ((c : Thread nD τ).loc cc0_scratch0),
    ((c : Thread nD τ).loc cc0_scratch0) ↦[(slot j).view.set]{fullShare} f) from BI.Entails.refl _) $$ Hs with ⟨%f, Hs⟩
  ihave #HI := (inv_at m K c (.ld j)) $$ Hc
  ihave #Hr := (reached_at m K c (.ld j)) $$ Hc
  have hp : iprop((((c : Thread nD τ).loc cc0_scratch0) ↦[(slot j).view.set]{fullShare}
        ((slot j).view.write (Elt F) f ((srcL j).view.read (Elt F) (m ((c : Thread nD τ).loc main_arg0))) Finset.univ))
      ∗ (((c : Thread nD τ).loc main_arg0) ↦[(srcL j).view.set]{qL} m ((c : Thread nD τ).loc main_arg0))) ⊢ (Rd m).payload (cell c (.ld j)) 0 false := by
    rw [payload_cell]
    iintro ⟨H, H'⟩
    iapply (show iprop(filled m c j ∗ xPts m c qL (srcL j).view.set) ⊢ pay m c (.ld j) false from BI.Entails.refl _)
    unfold filled xPts
    isplitl [H]
    · iexists f; iexact H
    iexact H'
  iapply (Rounds.wp_copy_pointsTo 𝒱₀ ER (Rd m) (c : Thread nD τ) none (src := srcL j) (dst := slot j) (sem := semOf (.ld j))
    (κ := K (c, .ld j)) (r := 0) (d := false) (fs := m ((c : Thread nD τ).loc main_arg0)) (fd := f) (q := qL)
    (false_mem m c rfl) () N1024 (credit_slot j) (amount_cell m c (.ld j) false) hp) $$ [Hx Hs Ht]
  · isplitr; · iexact HI
    isplitl [Hx]; · iexact Hx
    isplitl [Hs]; · iexact Hs
    isplitl [Ht]; · iexact Ht
    iexact Hr
  iexact Hk

/-- A loaded chunk is stored into the result. -/
theorem wp_store (K : Dev nD × Ch → ℕ) (c : Dev nD) (j : Fin 8) (P : Pr F) (Q : PUnit → sProp 𝕄) :
    iprop(ctx m K ∗ filled m c j ∗ oldPts m c (outL c j).view.set ∗ tok c (.st j))
      ⊢ iprop((crd c (.st j) -∗ goal c P Q) -∗ goal c ((Step.store j).andThen c P) Q) := by
  unfold Step.andThen oldPts
  iintro ⟨#Hc, Hs, Ho, Ht⟩ Hk
  icases (show filled (F := F) m c j ⊢ iprop(∃ f : Buf (Elt F) ((c : Thread nD τ).loc cc0_scratch0),
    ((c : Thread nD τ).loc cc0_scratch0) ↦[(slot j).view.set]{fullShare}
      (slot j).view.write (Elt F) f ((srcL j).view.read (Elt F) (m ((c : Thread nD τ).loc main_arg0))) Finset.univ) from BI.Entails.refl _) $$ Hs with ⟨%f, Hs⟩
  ihave #HI := (inv_at m K c (.st j)) $$ Hc
  ihave #Hr := (reached_at m K c (.st j)) $$ Hc
  have hp : iprop((((c : Thread nD τ).loc main_v1) ↦[(outL c j).view.set]{fullShare}
        ((outL c j).view.write (Elt F) (m ((c : Thread nD τ).loc main_v1)) ((slot j).view.read (Elt F)
          ((slot j).view.write (Elt F) f ((srcL j).view.read (Elt F) (m ((c : Thread nD τ).loc main_arg0))) Finset.univ)) Finset.univ))
      ∗ (((c : Thread nD τ).loc cc0_scratch0) ↦[(slot j).view.set]{fullShare}
          (slot j).view.write (Elt F) f ((srcL j).view.read (Elt F) (m ((c : Thread nD τ).loc main_arg0))) Finset.univ))
        ⊢ (Rd m).payload (cell c (.st j)) 0 false := by
    rw [payload_cell, View.read_write_univ, pointsTo_congr (landed_L m c j _)]
    iintro ⟨H, H'⟩
    iapply (show iprop(newPts m c (outL c j).view.set ∗ stPts c (slot j).view.set) ⊢ pay m c (.st j) false from BI.Entails.refl _)
    unfold newPts stPts
    isplitl [H]
    · iexact H
    iexists _; iexact H'
  iapply (Rounds.wp_copy_pointsTo 𝒱₀ ER (Rd m) (c : Thread nD τ) none (src := slot j) (dst := outL c j) (sem := semOf (.st j))
    (κ := K (c, .st j)) (r := 0) (d := false) (fd := m ((c : Thread nD τ).loc main_v1)) (q := fullShare)
    (false_mem m c rfl) () N1024 (credit_outL c j) (amount_cell m c (.st j) false) hp) $$ [Hs Ho Ht]
  · isplitr; · iexact HI
    isplitl [Hs]; · iexact Hs
    isplitl [Ho]; · iexact Ho
    isplitl [Ht]; · iexact Ht
    iexact Hr
  iexact Hk

end Cert.Gather

end
-- ==== Proof.Moves.lean ====
/- # The steps, and all of them in order

The transfers as steps, and a list of steps that may be made: run from a state's resources it ends with those of the
state it leads to.
-/
module

public import proofs.«01_k».proof.Proof.Sends

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A chunk is sent along the first axis. -/
theorem step_sendX (K : Dev nD × Ch → ℕ) (c : Dev nD) (σ : St) (k : Fin 64) (h : (Step.sendX k).Ok σ) (P : Pr F)
    (Q : PUnit → sProp 𝕄) :
    iprop(ctx m K ∗ Res m c σ)
      ⊢ iprop((Res m c ((Step.sendX k).upd σ) -∗ goal c P Q) -∗ goal c ((Step.sendX k).andThen c P) Q) := by
  obtain ⟨h1, h2⟩ := h
  unfold Res Step.upd
  iintro ⟨#Hc, HO, HX, HR, HY, HL, HS⟩ Hk
  ihave HX' := (fam_step (tX m c) _ (fun i => past (k.val + 1) i.val + past σ.wsx i.val) k 0 1
    (by rw [h1, past_self, past_of_le h2]) (by rw [past_succ, past_of_le h2])
    (fun i hi => by rw [past_other hi, h1])) $$ HX
  icases HX' with ⟨HXk, HX⟩
  icases (show tX m c k 0 ⊢ iprop(xPts m c qS (srcX c k).view.set ∗ oldPts m (px c) (outX c k).view.set ∗ tok c (.sx k)
    ∗ tok (px c) (.rx k) ∗ pos0 c (.sx k)) from BI.Entails.refl _) $$ HXk with ⟨Hx, Ho, Ht, Ht', Hat⟩
  rw [h1]
  iapply (wp_sendX m K c k σ.sy P Q) $$ [HO Hx Ho Ht Ht']
  · isplitr; · iexact Hc
    isplitl [HO]; · iexact HO
    isplitl [Hx]; · iexact Hx
    isplitl [Ho]; · iexact Ho
    isplitl [Ht] <;> iassumption
  iintro ⟨HO, Hcr⟩
  iapply Hk
  isplitl [HO]; · iexact HO
  isplitl [HX Hat Hcr]
  · iapply HX
    iapply (show iprop(crd c (.sx k) ∗ pos0 c (.sx k)) ⊢ tX m c k 1 from BI.Entails.refl _)
    isplitl [Hcr] <;> iassumption
  isplitl [HR]; · iexact HR
  isplitl [HY]; · iexact HY
  isplitl [HL] <;> iassumption

/-- A chunk is passed on along the second axis. -/
theorem step_sendY (K : Dev nD × Ch → ℕ) (c : Dev nD) (σ : St) (k : Fin 64) (h : (Step.sendY k).Ok σ) (P : Pr F)
    (Q : PUnit → sProp 𝕄) :
    iprop(ctx m K ∗ Res m c σ)
      ⊢ iprop((Res m c ((Step.sendY k).upd σ) -∗ goal c P Q) -∗ goal c ((Step.sendY k).andThen c P) Q) := by
  obtain ⟨h1, h2, h3⟩ := h
  unfold Res Step.upd
  iintro ⟨#Hc, HO, HX, HR, HY, HL, HS⟩ Hk
  ihave HR' := (fam_step (tR m c) _ (fun i => past σ.rx i.val + past (k.val + 1) i.val + past σ.wsy i.val) k 1 2
    (by rw [h1, past_of_lt h2, past_self, past_of_le h3]) (by rw [past_of_lt h2, past_succ, past_of_le h3])
    (fun i hi => by rw [past_other hi, h1])) $$ HR
  icases HR' with ⟨HRk, HR⟩
  icases (show tR m c k 1 ⊢ iprop(newPts m c (outX (px c) k).view.set ∗ pos1 c (.rx k) ∗ oldPts m (py c) (outY c k).view.set
    ∗ tok c (.sy k) ∗ tok (py c) (.ry k) ∗ pos0 c (.sy k)) from BI.Entails.refl _) $$ HRk with ⟨Hx, Hl, Ho, Ht, Ht', Hat⟩
  rw [h1]
  iapply (wp_sendY m K c k σ.sx P Q) $$ [HO Hx Ho Ht Ht']
  · isplitr; · iexact Hc
    isplitl [HO]; · iexact HO
    isplitl [Hx]; · iexact Hx
    isplitl [Ho]; · iexact Ho
    isplitl [Ht] <;> iassumption
  iintro ⟨HO, Hcr⟩
  iapply Hk
  isplitl [HO]; · iexact HO
  isplitl [HX]; · iexact HX
  isplitl [HR Hat Hcr Hl]
  · iapply HR
    iapply (show iprop(crd c (.sy k) ∗ pos0 c (.sy k) ∗ pos1 c (.rx k)) ⊢ tR m c k 2 from BI.Entails.refl _)
    isplitl [Hcr]; · iexact Hcr
    isplitl [Hat] <;> iassumption
  isplitl [HY]; · iexact HY
  isplitl [HL] <;> iassumption

/-- Chunk `j`'s load, among the loads of the stage slots. -/
def same (j : Fin 8) : Fin 12 := ⟨j.val, Nat.lt_add_right 4 j.isLt⟩

/-- A load is started. -/
theorem step_load (K : Dev nD × Ch → ℕ) (c : Dev nD) (σ : St) (j : Fin 8) (h : (Step.load j).Ok σ) (P : Pr F)
    (Q : PUnit → sProp 𝕄) :
    iprop(ctx m K ∗ Res m c σ)
      ⊢ iprop((Res m c ((Step.load j).upd σ) -∗ goal c P Q) -∗ goal c ((Step.load j).andThen c P) Q) := by
  obtain ⟨h1, h2, h3, h4, h5⟩ := h
  unfold Res Step.upd
  iintro ⟨#Hc, HO, HX, HR, HY, HL, HS⟩ Hk
  ihave HL' := (fam_step (tL m c) _ (fun i => past (j.val + 1) i.val + past σ.wl i.val + past σ.st i.val + past σ.ws i.val) j 0 1
    (by rw [h1, past_self, past_of_le h3, past_of_le h4, past_of_le h5])
    (by rw [past_succ, past_of_le h3, past_of_le h4, past_of_le h5])
    (fun i hi => by rw [past_other hi, h1])) $$ HL
  icases HL' with ⟨HLj, HL⟩
  ihave HS' := (fam_step (tS c) _ (fun i => past (σ.ws + 4) i.val + past (j.val + 1) i.val) (same j) 1 2
    (by unfold same; rw [h1, past_of_lt h2, past_self]) (by unfold same; rw [past_of_lt h2, past_succ])
    (fun i hi => by rw [h1]; exact congrArg (_ + ·) (past_other hi))) $$ HS
  icases HS' with ⟨HSj, HS⟩
  icases (show tL m c j 0 ⊢ iprop(xPts m c qL (srcL j).view.set ∗ tok c (.ld j) ∗ pos0 c (.ld j) ∗ sto m c j)
    from BI.Entails.refl _) $$ HLj with ⟨Hx, Ht, Hat, Hs⟩
  ihave HSj' := (show tS c (same j) 1 ⊢ stPts c (slot j).view.set from
    Entails.of_eq (congrArg (stPts c) (slotSet_eq j rfl))) $$ HSj
  iapply (wp_load m K c j P Q) $$ [Hx HSj' Ht]
  · isplitr; · iexact Hc
    isplitl [Hx]; · iexact Hx
    isplitl [HSj'] <;> iassumption
  iintro Hcr
  iapply Hk
  isplitl [HO]; · iexact HO
  isplitl [HX]; · iexact HX
  isplitl [HR]; · iexact HR
  isplitl [HY]; · iexact HY
  isplitl [HL Hcr Hat Hs]
  · iapply HL
    iapply (show iprop(crd c (.ld j) ∗ pos0 c (.ld j) ∗ sto m c j) ⊢ tL m c j 1 from BI.Entails.refl _)
    isplitl [Hcr]; · iexact Hcr
    isplitl [Hat] <;> iassumption
  iapply HS
  iapply (show iprop(emp) ⊢ tS c (same j) 2 from BI.Entails.refl _)
  iempintro

/-- A store is started. -/
theorem step_store (K : Dev nD × Ch → ℕ) (c : Dev nD) (σ : St) (j : Fin 8) (h : (Step.store j).Ok σ) (P : Pr F)
    (Q : PUnit → sProp 𝕄) :
    iprop(ctx m K ∗ Res m c σ)
      ⊢ iprop((Res m c ((Step.store j).upd σ) -∗ goal c P Q) -∗ goal c ((Step.store j).andThen c P) Q) := by
  obtain ⟨h1, h2, h3, h4⟩ := h
  unfold Res Step.upd
  iintro ⟨#Hc, HO, HX, HR, HY, HL, HS⟩ Hk
  ihave HL' := (fam_step (tL m c) _ (fun i => past σ.ld i.val + past σ.wl i.val + past (j.val + 1) i.val + past σ.ws i.val) j 2 3
    (by rw [h1, past_of_lt h2, past_of_lt h3, past_self, past_of_le h4])
    (by rw [past_of_lt h2, past_of_lt h3, past_succ, past_of_le h4])
    (fun i hi => by rw [past_other hi, h1])) $$ HL
  icases HL' with ⟨HLj, HL⟩
  icases (show tL m c j 2 ⊢ iprop(filled m c j ∗ xPts m c qL (srcL j).view.set ∗ pos1 c (.ld j) ∗ oldPts m c (outL c j).view.set
    ∗ tok c (.st j) ∗ pos0 c (.st j)) from BI.Entails.refl _) $$ HLj with ⟨Hf, Hx, Hl, Ho, Ht, Hat⟩
  iapply (wp_store m K c j P Q) $$ [Hf Ho Ht]
  · isplitr; · iexact Hc
    isplitl [Hf]; · iexact Hf
    isplitl [Ho] <;> iassumption
  iintro Hcr
  iapply Hk
  isplitl [HO]; · iexact HO
  isplitl [HX]; · iexact HX
  isplitl [HR]; · iexact HR
  isplitl [HY]; · iexact HY
  isplitl [HL Hcr Hat Hx Hl]
  · iapply HL
    iapply (show iprop(crd c (.st j) ∗ pos0 c (.st j) ∗ xPts m c qL (srcL j).view.set ∗ pos1 c (.ld j)) ⊢ tL m c j 3 from BI.Entails.refl _)
    isplitl [Hcr]; · iexact Hcr
    isplitl [Hat]; · iexact Hat
    isplitl [Hx] <;> iassumption
  iexact HS

/-- Any step that may be made, run from a state's resources, ends with those of the state after it. -/
theorem step_sound (K : Dev nD × Ch → ℕ) (c : Dev nD) (σ : St) (s : Step) (h : s.Ok σ) (P : Pr F) (Q : PUnit → sProp 𝕄) :
    iprop(ctx m K ∗ Res m c σ) ⊢ iprop((Res m c (s.upd σ) -∗ goal c P Q) -∗ goal c (s.andThen c P) Q) := by
  cases s with
  | load j => exact step_load m K c σ j h P Q
  | waitLoad j => exact step_waitLoad m K c σ j h P Q
  | store j => exact step_store m K c σ j h P Q
  | waitStore j => exact step_waitStore m K c σ j h P Q
  | sendX k => exact step_sendX m K c σ k h P Q
  | waitRecvX k => exact step_waitRecvX m K c σ k h P Q
  | sendY k => exact step_sendY m K c σ k h P Q
  | waitSendX k => exact step_waitSendX m K c σ k h P Q
  | waitSendY k => exact step_waitSendY m K c σ k h P Q
  | waitRecvY k => exact step_waitRecvY m K c σ k h P Q

/-- A list of steps that may be made from a state runs from its resources to those of the state it leads to. -/
theorem run_sound (K : Dev nD × Ch → ℕ) (c : Dev nD) (Q : PUnit → sProp 𝕄) : ∀ (l : List Step) (σ σ' : St), leads l σ σ' = true →
    iprop(ctx m K ∗ Res m c σ) ⊢ iprop((Res m c σ' -∗ Q ⟨⟩) -∗ goal c (runSteps c l) Q)
  | [], σ, σ', h => by
    obtain rfl : σ = σ' := of_decide_eq_true h
    show iprop(ctx m K ∗ Res m c σ) ⊢ iprop((Res m c σ -∗ Q ⟨⟩) -∗ goal c (.ret ⟨⟩) Q)
    unfold goal
    rw [wp_ret]
    iintro ⟨-, H⟩ Hk
    imodintro
    iapply Hk
    iexact H
  | s :: l, σ, σ', h => by
    obtain ⟨h1, h2⟩ := (Bool.and_eq_true _ _).mp h
    iintro ⟨#Hc, H⟩ Hk
    iapply (step_sound m K c σ s (of_decide_eq_true h1) (runSteps c l) Q) $$ [H]
    · isplitr; · iexact Hc
      iexact H
    iintro H
    iapply (run_sound K c Q l (s.upd σ) σ' h2) $$ [H]
    · isplitr; · iexact Hc
      iexact H
    iexact Hk

end Cert.Gather

end
-- ==== Proof.Parts.lean ====
/- # Whole buffers and their parts

The result is exactly its chunks: those that the first-axis neighbour sends, those that the second-axis one passes on, and
those copied locally. The argument is held in two halves, one for the sends and one for the loads. The stage is its slots.
-/
module

public import proofs.«01_k».proof.Proof.Moves
public import Idealize.ShloMosaic.Lib.Ring.WriteBehind

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

/-- The chunks of a device's result. -/
abbrev Chunk : Type := Fin 64 ⊕ Fin 64 ⊕ Fin 8

/-- The elements of a chunk of `c`'s result. -/
def part (c : Dev nD) : Chunk → Finset S16384x1024.Idx
  | .inl k => (outX (px c) k).view.set
  | .inr (.inl k) => (outY (py c) k).view.set
  | .inr (.inr j) => (outL c j).view.set

/-- First row of a chunk, and how many it has. -/
def row (c : Dev nD) : Chunk → ℕ
  | .inl k => 8192 * (1 - c.val / 2) + 4096 * (c.val % 2) + 64 * k.val
  | .inr (.inl k) => 8192 * (1 - c.val / 2) + 4096 * (1 - c.val % 2) + 64 * k.val
  | .inr (.inr j) => 8192 * (c.val / 2) + 1024 * j.val
/-- The number of rows of a chunk. -/
def rows : Chunk → ℕ
  | .inl _ => 64
  | .inr (.inl _) => 64
  | .inr (.inr _) => 1024

/-- A chunk is an interval of rows. -/
theorem mem_part (c : Dev nD) (t : Chunk) (i : S16384x1024.Idx) :
    i ∈ part c t ↔ row c t ≤ (i 0).val ∧ (i 0).val < row c t + rows t := by
  rcases t with k | k | j
  · refine (mem_outX (px c) k i).trans (Eq.to_iff ?_)
    unfold rowX row rows
    rw [px_row, px_col]
  · refine (mem_outY (py c) k i).trans (Eq.to_iff ?_)
    unfold rowX row rows
    rw [px_row, px_col, py_row, py_col]
  · exact mem_outL c j i

/-- Two chunks share no row. -/
theorem row_inj (c : Dev nD) (r : ℕ) (t t' : Chunk) (h : row c t ≤ r ∧ r < row c t + rows t) (h' : row c t' ≤ r ∧ r < row c t' + rows t') :
    t = t' := by
  have hc := dev_lt c
  rcases t with k | k | k <;> rcases t' with l | l | l <;> have hk := k.isLt <;> have hl := l.isLt <;> simp only [row, rows] at h h'
  · exact congrArg Sum.inl (Fin.ext (by omega))
  · omega
  · omega
  · omega
  · exact congrArg (Sum.inr ∘ Sum.inl) (Fin.ext (by omega))
  · omega
  · omega
  · omega
  · exact congrArg (Sum.inr ∘ Sum.inr) (Fin.ext (by omega))

/-- Different chunks of the result share no element. -/
theorem part_disjoint (c : Dev nD) (t t' : Chunk) (h : t ≠ t') : Disjoint (part c t) (part c t') :=
  Finset.disjoint_left.mpr fun i hi hi' => h (row_inj c (i 0).val t t' ((mem_part c t i).mp hi) ((mem_part c t' i).mp hi'))

/-- Every row lies in a chunk. -/
theorem part_cover (c : Dev nD) : Finset.univ.biUnion (part c) = Finset.univ := by
  refine Finset.eq_univ_of_forall fun i => Finset.mem_biUnion.mpr ?_
  have hc := dev_lt c
  have hi : (i 0).val < 16384 := (i 0).isLt
  by_cases h : (i 0).val / 8192 = c.val / 2
  · refine ⟨.inr (.inr ⟨(i 0).val % 8192 / 1024, by omega⟩), Finset.mem_univ _, (mem_part c _ i).mpr ?_⟩
    simp only [row, rows]; omega
  by_cases h' : (i 0).val % 8192 / 4096 = c.val % 2
  · refine ⟨.inl ⟨(i 0).val % 4096 / 64, by omega⟩, Finset.mem_univ _, (mem_part c _ i).mpr ?_⟩
    simp only [row, rows]; omega
  · refine ⟨.inr (.inl ⟨(i 0).val % 4096 / 64, by omega⟩), Finset.mem_univ _, (mem_part c _ i).mpr ?_⟩
    simp only [row, rows]; omega

omit [FloatOps F] in
/-- The result held whole is its chunks held one by one. -/
theorem out_parts (c : Dev nD) (f : Buf (Elt F) ((c : Thread nD τ).loc main_v1)) :
    (((c : Thread nD τ).loc main_v1) ↦{fullShare} f : sProp 𝕄)
      = iprop((bigSep Finset.univ fun k => ((c : Thread nD τ).loc main_v1) ↦[(outX (px c) k).view.set]{fullShare} f)
        ∗ (bigSep Finset.univ fun k => ((c : Thread nD τ).loc main_v1) ↦[(outY (py c) k).view.set]{fullShare} f)
        ∗ bigSep Finset.univ fun j => ((c : Thread nD τ).loc main_v1) ↦[(outL c j).view.set]{fullShare} f) := by
  have h := pointsTo_biUnion (Ix := Unit) (Name := ℕ) (U := UU) (Lvl := ℕ) (ℓ := (c : Thread nD τ).loc main_v1) (q := fullShare) (f := f)
    Finset.univ (part c) fun t _ t' _ => part_disjoint c t t'
  rw [part_cover, bigSep_univ_sum, bigSep_univ_sum] at h
  exact h

/-! ## The argument -/

/-- The rows a device sends. -/
def sent (c : Dev nD) : Finset S8192x1024.Idx := Finset.univ.biUnion fun k : Fin 64 => (srcX c k).view.set

/-- Different chunks that are sent share no element. -/
theorem srcX_disjoint (c : Dev nD) (k l : Fin 64) (h : k ≠ l) : Disjoint (srcX c k).view.set (srcX c l).view.set :=
  Finset.disjoint_left.mpr fun i hi hi' => h (Fin.ext (by
    have h₁ := (mem_srcX c k i).mp hi
    have h₂ := (mem_srcX c l i).mp hi'
    omega))

/-- Different chunks that are loaded share no element. -/
theorem srcL_disjoint (k l : Fin 8) (h : k ≠ l) : Disjoint (srcL k).view.set (srcL l).view.set :=
  Finset.disjoint_left.mpr fun i hi hi' => h (Fin.ext (by
    have h₁ := (mem_srcL k i).mp hi
    have h₂ := (mem_srcL l i).mp hi'
    omega))

/-- The loaded chunks are all of the argument. -/
theorem srcL_cover : Finset.univ.biUnion (β := S8192x1024.Idx) (fun j : Fin 8 => (srcL j).view.set) = Finset.univ := by
  refine Finset.eq_univ_of_forall fun i => Finset.mem_biUnion.mpr ?_
  have hi : (i 0).val < 8192 := (i 0).isLt
  refine ⟨⟨(i 0).val / 1024, by omega⟩, Finset.mem_univ _, (mem_srcL _ i).mpr ?_⟩
  show 1024 * ((i 0).val / 1024) ≤ _ ∧ _ < 1024 * ((i 0).val / 1024) + 1024
  omega

omit [FloatOps F] in
/-- The argument held whole: for the sends its sent chunks and the rest, for the loads all its chunks. -/
theorem x_parts (c : Dev nD) :
    (((c : Thread nD τ).loc main_arg0) ↦{fullShare} m ((c : Thread nD τ).loc main_arg0) : sProp 𝕄)
      ⊣⊢ iprop(((bigSep Finset.univ fun k => xPts m c qS (srcX c k).view.set) ∗ xPts m c qS (Finset.univ \ sent c))
        ∗ bigSep Finset.univ fun j => xPts m c qL (srcL j).view.set) := by
  have hS : (xPts m c qS Finset.univ : sProp 𝕄) ⊣⊢ iprop((bigSep Finset.univ fun k => xPts m c qS (srcX c k).view.set) ∗ xPts m c qS (Finset.univ \ sent c)) := by
    have h := pointsTo_biUnion (Ix := Unit) (Name := ℕ) (U := UU) (Lvl := ℕ) (ℓ := (c : Thread nD τ).loc main_arg0) (q := qS)
      (f := m ((c : Thread nD τ).loc main_arg0)) Finset.univ (fun k : Fin 64 => (srcX c k).view.set) fun t _ t' _ => srcX_disjoint c t t'
    unfold xPts
    rw [← h]
    exact pointsTo_split_subset (Finset.subset_univ _)
  have hL : (xPts m c qL Finset.univ : sProp 𝕄) = bigSep Finset.univ fun j => xPts m c qL (srcL j).view.set := by
    have h := pointsTo_biUnion (Ix := Unit) (Name := ℕ) (U := UU) (Lvl := ℕ) (ℓ := (c : Thread nD τ).loc main_arg0) (q := qL)
      (f := m ((c : Thread nD τ).loc main_arg0)) Finset.univ (fun j : Fin 8 => (srcL j).view.set) fun t _ t' _ => srcL_disjoint t t'
    rw [srcL_cover] at h
    exact h
  have hs : (((c : Thread nD τ).loc main_arg0) ↦{fullShare} m ((c : Thread nD τ).loc main_arg0) : sProp 𝕄)
      ⊣⊢ iprop(xPts m c qS Finset.univ ∗ xPts m c qL Finset.univ) := pointsTo_share (PosShare.mem_left_op_right fullShare)
  rw [← hL]
  exact ⟨hs.1.trans (sep_mono_left hS.1), (sep_mono_left hS.2).trans hs.2⟩

/-! ## The stage -/

/-- Different slots share no element. -/
theorem slotSet_disjoint (p q : Fin 4) (h : p ≠ q) : Disjoint (slotSet p.val) (slotSet q.val) :=
  Finset.disjoint_left.mpr fun i hi hi' => h (Fin.ext (by
    have h₁ := (Finset.mem_filter.mp hi).2
    have h₂ := (Finset.mem_filter.mp hi').2
    omega))

/-- The four slots are all of the stage. -/
theorem slotSet_cover : Finset.univ.biUnion (fun q : Fin 4 => slotSet q.val) = Finset.univ := by
  refine Finset.eq_univ_of_forall fun i => Finset.mem_biUnion.mpr ?_
  have hi : (i 0).val < 4 := (i 0).isLt
  exact ⟨⟨(i 0).val, hi⟩, Finset.mem_univ _, Finset.mem_filter.mpr ⟨Finset.mem_univ _, (Nat.mod_eq_of_lt hi).symm⟩⟩

/-- The stage's four slots. -/
def slots (c : Dev nD) : sProp 𝕄 := iprop(stPts c (slotSet 0) ∗ stPts c (slotSet 1) ∗ stPts c (slotSet 2) ∗ stPts c (slotSet 3))

omit [FloatOps F] in
/-- The slots one by one are the family of the four slots. -/
theorem slots_eq (c : Dev nD) : (slots c : sProp 𝕄) = bigSep Finset.univ fun q : Fin 4 => stPts c (slotSet q.val) := by
  rw [bigSep_univ_eq_bigSepL [0, 1, 2, 3] (by decide) (by decide)]; rfl

omit [FloatOps F] in
/-- The stage held whole is its four slots. -/
theorem stage_split (c : Dev nD) : iprop(∃ f : Buf (Elt F) ((c : Thread nD τ).loc cc0_scratch0), ((c : Thread nD τ).loc cc0_scratch0) ↦{fullShare} f)
    ⊢ (slots c : sProp 𝕄) := by
  rw [slots_eq]
  exact Ring.pieces_split (ℓ := (c : Thread nD τ).loc cc0_scratch0) (fun q : Fin 4 => slotSet q.val) slotSet_disjoint slotSet_cover
    (fun q f => ((c : Thread nD τ).loc cc0_scratch0) ↦[slotSet q.val]{fullShare} f) fun _ _ => rfl

include m in
omit [FloatOps F] in
/-- Its four slots are the stage held whole. -/
theorem stage_join (c : Dev nD) : (slots c : sProp 𝕄)
    ⊢ iprop(∃ f : Buf (Elt F) ((c : Thread nD τ).loc cc0_scratch0), ((c : Thread nD τ).loc cc0_scratch0) ↦{fullShare} f) := by
  rw [slots_eq]
  exact Ring.pieces_join (ℓ := (c : Thread nD τ).loc cc0_scratch0) (fun q : Fin 4 => slotSet q.val) slotSet_disjoint slotSet_cover
    (fun q f => ((c : Thread nD τ).loc cc0_scratch0) ↦[slotSet q.val]{fullShare} f) (fun _ _ => rfl) (m ((c : Thread nD τ).loc cc0_scratch0))

end Cert.Gather

end
-- ==== Proof.Ends.lean ====
/- # What a device starts from and what it ends with

The resources of the first state, gathered from what the launch deals and the barrier hands over, and those of the last
state, laid out by kind.
-/
module

public import proofs.«01_k».proof.Proof.Parts

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rights to signal a device's transfers use. -/
def sendToks (c : Dev nD) : sProp 𝕄 :=
  iprop((bigSep Finset.univ fun k : Fin 64 => tok c (.sx k)) ∗ (bigSep Finset.univ fun k : Fin 64 => tok (px c) (.rx k))
    ∗ (bigSep Finset.univ fun k : Fin 64 => tok c (.sy k)) ∗ (bigSep Finset.univ fun k : Fin 64 => tok (py c) (.ry k))
    ∗ (bigSep Finset.univ fun j : Fin 8 => tok c (.ld j)) ∗ bigSep Finset.univ fun j : Fin 8 => tok c (.st j))
/-- The rights to signal the two neighbours' barriers. -/
def barToks (c : Dev nD) : sProp 𝕄 :=
  iprop(dutyTok ER (cell (px c) .bar) 0 false ∗ dutyTok ER (cell (py c) .bar) 0 true)
/-- The credit for the arrivals. -/
def credits (c : Dev nD) : sProp 𝕄 :=
  iprop((bigSep Finset.univ fun k : Fin 64 => crd c (.rx k)) ∗ bigSep Finset.univ fun k : Fin 64 => crd c (.ry k))

/-- What the launch deals a device. -/
def start (c : Dev nD) : sProp 𝕄 :=
  iprop((∃ K, ctx m K ∗ (bigSep Finset.univ fun h : Ch => pos0 c h) ∗ barToks c ∗ sendToks c)
    ∗ cred (tallyAt (cell c .bar) () 2) ∗ credits c)

/-! ## The first state -/

omit [FloatOps F] in
/-- Before any send: the rows to send, the rows to write on the neighbour, both rights to signal and the positions. -/
theorem famX_init (c : Dev nD) : (bigSep Finset.univ fun k : Fin 64 => tX m c k (past 0 k.val + past 0 k.val))
    = iprop((bigSep Finset.univ fun k => xPts m c qS (srcX c k).view.set) ∗ (bigSep Finset.univ fun k => oldPts m (px c) (outX c k).view.set)
      ∗ (bigSep Finset.univ fun k => tok c (.sx k)) ∗ (bigSep Finset.univ fun k => tok (px c) (.rx k)) ∗ bigSep Finset.univ fun k => pos0 c (.sx k)) := by
  rw [bigSep_congr fun k _ => congrArg (tX m c k) (show past 0 k.val + past 0 k.val = 0 by rw [past_of_le (Nat.zero_le _)])]
  simp only [← bigSep_sep']
  rfl

omit [FloatOps F] in
/-- Before any arrival on the first axis: the credit for it, the position, and what passing the chunk on needs. -/
theorem famR_init (c : Dev nD) : (bigSep Finset.univ fun k : Fin 64 => tR m c k (past 0 k.val + past 0 k.val + past 0 k.val))
    = iprop((bigSep Finset.univ fun k => crd c (.rx k)) ∗ (bigSep Finset.univ fun k => pos0 c (.rx k))
      ∗ (bigSep Finset.univ fun k => oldPts m (py c) (outY c k).view.set)
      ∗ (bigSep Finset.univ fun k => tok c (.sy k)) ∗ (bigSep Finset.univ fun k => tok (py c) (.ry k)) ∗ bigSep Finset.univ fun k => pos0 c (.sy k)) := by
  rw [bigSep_congr fun k _ => congrArg (tR m c k) (show past 0 k.val + past 0 k.val + past 0 k.val = 0 by rw [past_of_le (Nat.zero_le _)])]
  simp only [← bigSep_sep']
  rfl

omit [FloatOps F] in
/-- Before any arrival on the second axis: the credit for it and the position. -/
theorem famY_init (c : Dev nD) : (bigSep Finset.univ fun k : Fin 64 => tY m c k (past 0 k.val))
    = iprop((bigSep Finset.univ fun k => crd c (.ry k)) ∗ bigSep Finset.univ fun k => pos0 c (.ry k)) := by
  rw [bigSep_congr fun k _ => congrArg (tY m c k) (past_of_le (Nat.zero_le k.val))]
  simp only [← bigSep_sep']
  rfl

omit [FloatOps F] in
/-- Before any load: the rows to load and to store to, the rights to signal and the positions. -/
theorem famL_init (c : Dev nD) : (bigSep Finset.univ fun j : Fin 8 => tL m c j (past 0 j.val + past 0 j.val + past 0 j.val + past 0 j.val))
    = iprop((bigSep Finset.univ fun j => xPts m c qL (srcL j).view.set) ∗ (bigSep Finset.univ fun j => tok c (.ld j))
      ∗ (bigSep Finset.univ fun j => pos0 c (.ld j)) ∗ (bigSep Finset.univ fun j => oldPts m c (outL c j).view.set)
      ∗ (bigSep Finset.univ fun j => tok c (.st j)) ∗ bigSep Finset.univ fun j => pos0 c (.st j)) := by
  rw [bigSep_congr fun j _ => congrArg (tL m c j) (show past 0 j.val + past 0 j.val + past 0 j.val + past 0 j.val = 0 by rw [past_of_le (Nat.zero_le _)])]
  simp only [← bigSep_sep']
  rfl

omit [FloatOps F] in
/-- The first four loads find their stage slots free. -/
theorem famS_init (c : Dev nD) : (slots c : sProp 𝕄) ⊢ bigSep Finset.univ fun q : Fin 12 => tS c q (past (0 + 4) q.val + past 0 q.val) := by
  rw [bigSep_univ_eq_bigSepL [0, 1, 2, 3, 4, 5, 6, 7, 8, 9, 10, 11] (by decide) (by decide)]
  show slots c ⊢ (iprop(stPts c (slotSet 0) ∗ stPts c (slotSet 1) ∗ stPts c (slotSet 2) ∗ stPts c (slotSet 3)
    ∗ emp ∗ emp ∗ emp ∗ emp ∗ emp ∗ emp ∗ emp ∗ emp) : sProp 𝕄)
  unfold slots
  iintro ⟨H0, H1, H2, H3⟩
  isplitl [H0]; · iexact H0
  isplitl [H1]; · iexact H1
  isplitl [H2]; · iexact H2
  isplitl [H3]; · iexact H3
  repeat (isplitr; · iempintro)
  iempintro

/-- The resources of the first state. -/
theorem res_init (c : Dev nD) :
    iprop((∃ W, owes (c : Thread nD τ) (owed c 0 0) W)
        ∗ ((bigSep Finset.univ fun k => pos0 c (.sx k)) ∗ (bigSep Finset.univ fun k => pos0 c (.rx k)) ∗ (bigSep Finset.univ fun k => pos0 c (.sy k))
          ∗ (bigSep Finset.univ fun k => pos0 c (.ry k)) ∗ (bigSep Finset.univ fun j => pos0 c (.ld j)) ∗ bigSep Finset.univ fun j => pos0 c (.st j))
        ∗ sendToks c ∗ credits c
        ∗ (bigSep Finset.univ fun k => xPts m c qS (srcX c k).view.set) ∗ (bigSep Finset.univ fun j => xPts m c qL (srcL j).view.set)
        ∗ (bigSep Finset.univ fun k => oldPts m (px c) (outX c k).view.set) ∗ (bigSep Finset.univ fun k => oldPts m (py c) (outY c k).view.set)
        ∗ (bigSep Finset.univ fun j => oldPts m c (outL c j).view.set) ∗ slots c)
      ⊢ Res m c St.init := by
  unfold Res St.init sendToks credits
  dsimp only
  rw [famX_init, famR_init, famY_init, famL_init]
  iintro ⟨HO, ⟨Psx, Prx, Psy, Pry, Pld, Pst⟩, ⟨Tsx, Trx, Tsy, Try, Tld, Tst⟩, ⟨Crx, Cry⟩, Hxs, Hxl, Ox, Oy, Ol, Hs⟩
  isplitl [HO]; · iexact HO
  isplitl [Hxs Ox Tsx Trx Psx]
  · isplitl [Hxs]; · iexact Hxs
    isplitl [Ox]; · iexact Ox
    isplitl [Tsx]; · iexact Tsx
    isplitl [Trx] <;> iassumption
  isplitl [Crx Prx Oy Tsy Try Psy]
  · isplitl [Crx]; · iexact Crx
    isplitl [Prx]; · iexact Prx
    isplitl [Oy]; · iexact Oy
    isplitl [Tsy]; · iexact Tsy
    isplitl [Try] <;> iassumption
  isplitl [Cry Pry]
  · isplitl [Cry] <;> iassumption
  isplitl [Hxl Tld Pld Ol Tst Pst]
  · isplitl [Hxl]; · iexact Hxl
    isplitl [Tld]; · iexact Tld
    isplitl [Pld]; · iexact Pld
    isplitl [Ol]; · iexact Ol
    isplitl [Tst] <;> iassumption
  iapply (famS_init c)
  iexact Hs

/-! ## The last state -/

/-- After 64 steps of a kind the step of each of 64 chunks is done. -/
theorem past64 (k : Fin 64) : past 64 k.val = 1 := past_of_lt k.isLt
/-- After 8 steps of a kind the step of each of 8 chunks is done. -/
theorem past8 (j : Fin 8) : past 8 j.val = 1 := past_of_lt j.isLt

/-- After all sends: the rows that were sent are back, and the semaphores have been waited for. -/
theorem famX_final (c : Dev nD) : (bigSep Finset.univ fun k : Fin 64 => tX m c k (past 64 k.val + past 64 k.val))
    = iprop((bigSep Finset.univ fun k => xPts m c qS (srcX c k).view.set) ∗ bigSep Finset.univ fun k => pos1 c (.sx k)) := by
  rw [bigSep_congr fun k _ => congrArg (tX m c k) (show past 64 k.val + past 64 k.val = 2 by rw [past64])]
  simp only [← bigSep_sep']
  rfl

/-- After all arrivals on the first axis and their passing on: these rows of the result are final. -/
theorem famR_final (c : Dev nD) : (bigSep Finset.univ fun k : Fin 64 => tR m c k (past 64 k.val + past 64 k.val + past 64 k.val))
    = iprop((bigSep Finset.univ fun k => newPts m c (outX (px c) k).view.set) ∗ (bigSep Finset.univ fun k => pos1 c (.sy k))
      ∗ bigSep Finset.univ fun k => pos1 c (.rx k)) := by
  rw [bigSep_congr fun k _ => congrArg (tR m c k) (show past 64 k.val + past 64 k.val + past 64 k.val = 3 by rw [past64])]
  simp only [← bigSep_sep']
  rfl

/-- After all arrivals on the second axis: these rows of the result are final. -/
theorem famY_final (c : Dev nD) : (bigSep Finset.univ fun k : Fin 64 => tY m c k (past 64 k.val))
    = iprop((bigSep Finset.univ fun k => newPts m c (outY (py c) k).view.set) ∗ bigSep Finset.univ fun k => pos1 c (.ry k)) := by
  rw [bigSep_congr fun k _ => congrArg (tY m c k) (past64 k)]
  simp only [← bigSep_sep']
  rfl

/-- After all stores: the own rows of the result are final, and the rows that were loaded are back. -/
theorem famL_final (c : Dev nD) : (bigSep Finset.univ fun j : Fin 8 => tL m c j (past 8 j.val + past 8 j.val + past 8 j.val + past 8 j.val))
    = iprop((bigSep Finset.univ fun j => newPts m c (outL c j).view.set) ∗ (bigSep Finset.univ fun j => pos1 c (.st j))
      ∗ (bigSep Finset.univ fun j => xPts m c qL (srcL j).view.set) ∗ bigSep Finset.univ fun j => pos1 c (.ld j)) := by
  rw [bigSep_congr fun j _ => congrArg (tL m c j) (show past 8 j.val + past 8 j.val + past 8 j.val + past 8 j.val = 4 by rw [past8])]
  simp only [← bigSep_sep']
  rfl

omit [FloatOps F] in
/-- In the end the four stage slots are free. -/
theorem famS_final (c : Dev nD) : (bigSep Finset.univ fun q : Fin 12 => tS c q (past (8 + 4) q.val + past 8 q.val)) ⊢ (slots c : sProp 𝕄) := by
  rw [bigSep_univ_eq_bigSepL [0, 1, 2, 3, 4, 5, 6, 7, 8, 9, 10, 11] (by decide) (by decide)]
  show (iprop(emp ∗ emp ∗ emp ∗ emp ∗ emp ∗ emp ∗ emp ∗ emp ∗ stPts c (slotSet 0) ∗ stPts c (slotSet 1) ∗ stPts c (slotSet 2) ∗ stPts c (slotSet 3)) : sProp 𝕄)
    ⊢ slots c
  unfold slots
  iintro ⟨-, -, -, -, -, -, -, -, H⟩
  iexact H

/-- The resources of the last state. -/
theorem res_final (c : Dev nD) : Res m c St.final
    ⊢ iprop((∃ W, owes (c : Thread nD τ) 0 W)
        ∗ ((bigSep Finset.univ fun k => pos1 c (.sx k)) ∗ (bigSep Finset.univ fun k => pos1 c (.rx k)) ∗ (bigSep Finset.univ fun k => pos1 c (.sy k))
          ∗ (bigSep Finset.univ fun k => pos1 c (.ry k)) ∗ (bigSep Finset.univ fun j => pos1 c (.ld j)) ∗ bigSep Finset.univ fun j => pos1 c (.st j))
        ∗ (bigSep Finset.univ fun k => xPts m c qS (srcX c k).view.set) ∗ (bigSep Finset.univ fun j => xPts m c qL (srcL j).view.set)
        ∗ ((bigSep Finset.univ fun k => newPts m c (outX (px c) k).view.set) ∗ (bigSep Finset.univ fun k => newPts m c (outY (py c) k).view.set)
          ∗ bigSep Finset.univ fun j => newPts m c (outL c j).view.set) ∗ slots c) := by
  unfold Res St.final
  dsimp only
  rw [famX_final, famR_final, famY_final, famL_final, owed_end]
  iintro ⟨HO, ⟨Hxs, Psx⟩, ⟨Nx, Psy, Prx⟩, ⟨Ny, Pry⟩, ⟨Nl, Pst, Hxl, Pld⟩, HS⟩
  ihave HS' := (famS_final (F := F) c) $$ HS
  isplitl [HO]; · iexact HO
  isplitl [Psx Prx Psy Pry Pld Pst]
  · isplitl [Psx]; · iexact Psx
    isplitl [Prx]; · iexact Prx
    isplitl [Psy]; · iexact Psy
    isplitl [Pry]; · iexact Pry
    isplitl [Pld] <;> iassumption
  isplitl [Hxs]; · iexact Hxs
  isplitl [Hxl]; · iexact Hxl
  isplitl [Nx Ny Nl]
  · isplitl [Nx]; · iexact Nx
    isplitl [Ny] <;> iassumption
  iexact HS'

end Cert.Gather

end
-- ==== Proof.Body.lean ====
/- # The body of one device

From what the launch deals a device, its argument, its result and its stage, the body runs to the end: the argument as it
was, the result holding what it is to hold, every semaphore back at zero.
-/
module

public import proofs.«01_k».proof.Proof.Ends

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-- The stage, whole, holding anything. -/
def stage (c : Dev nD) : sProp 𝕄 :=
  iprop(∃ f : Buf (Elt F) ((c : Thread nD τ).loc cc0_scratch0), ((c : Thread nD τ).loc cc0_scratch0) ↦{fullShare} f)
/-- The argument, whole, as it was. -/
def argPts (c : Dev nD) : sProp 𝕄 := ((c : Thread nD τ).loc main_arg0) ↦{fullShare} m ((c : Thread nD τ).loc main_arg0)
/-- The result, whole, as it was, and as it is to be. -/
def resOld (c : Dev nD) : sProp 𝕄 := ((c : Thread nD τ).loc main_v1) ↦{fullShare} m ((c : Thread nD τ).loc main_v1)
/-- The result, whole, as it is to be. -/
def resNew (c : Dev nD) : sProp 𝕄 := ((c : Thread nD τ).loc main_v1) ↦{fullShare} outAt m c
/-- All semaphores of a device at zero. -/
def zeros (c : Dev nD) : sProp 𝕄 := bigSep Finset.univ fun h : Ch => semVal (cell c h) 0

/-- Before the body and after it. -/
def Φ₀ (c : Dev nD) : sProp 𝕄 := iprop(start m c ∗ argPts m c ∗ resOld m c ∗ stage c)
/-- After the body: the argument as it was, the result as it is to be, the stage holding anything, all semaphores at zero. -/
def Φ₁ (c : Dev nD) : sProp 𝕄 := iprop(argPts m c ∗ resNew m c ∗ stage c ∗ zeros c)

/-- What a device owes at the start: the arrivals, and a signal to each neighbour's barrier. -/
def O₀ (c : Dev nD) : CellTallies nD τ sig Unit :=
  owed c 0 0 + tallyAt (cell (py c) .bar) () 1 + tallyAt (cell (px c) .bar) () 1

/-! ## The handshake -/

/-- The device tells its neighbours that it has entered, giving each the part of its result that the other is to write, and
    waits until both have told it. -/
theorem handshake (K : Dev nD × Ch → ℕ) (c : Dev nD) (P : Pr F) (Q : PUnit → sProp 𝕄) :
    iprop(ctx m K ∗ (∃ W, owes (c : Thread nD τ) (O₀ c) W) ∗ pos0 c .bar ∗ barToks c ∗ cred (tallyAt (cell c .bar) () 2)
        ∗ (bigSep Finset.univ fun k => oldPts m c (outX (px c) k).view.set) ∗ (bigSep Finset.univ fun k => oldPts m c (outY (py c) k).view.set))
      ⊢ iprop((((∃ W, owes (c : Thread nD τ) (owed c 0 0) W) ∗ pos1 c .bar
            ∗ (bigSep Finset.univ fun k => oldPts m (px c) (outX c k).view.set) ∗ (bigSep Finset.univ fun k => oldPts m (py c) (outY c k).view.set))
          -∗ goal c P Q)
        -∗ goal c (.op (.semSignal (Dev.tc (px c)) barS (1#32 : BitVec 32).toInt) fun _ =>
            .op (.semSignal (Dev.tc (py c)) barS (1#32 : BitVec 32).toInt) fun _ =>
            .op (.semWait barS (2#32 : BitVec 32).toInt) fun _ => P) Q) := by
  unfold barToks
  iintro ⟨#Hc, ⟨%W, HO⟩, Hat, ⟨HtX, HtY⟩, Hcr, Hx, Hy⟩ Hk
  ihave #HI := (inv_at m K c .bar) $$ Hc
  ihave #HIx := (inv_at m K (px c) .bar) $$ Hc
  ihave #HIy := (inv_at m K (py c) .bar) $$ Hc
  ihave #Hrx := (reached_at m K (px c) .bar) $$ Hc
  ihave #Hry := (reached_at m K (py c) .bar) $$ Hc
  ihave #Hlev := (lev_at m K) $$ Hc
  have hx : (bigSep Finset.univ fun k => oldPts m c (outX (px c) k).view.set) ⊢ (Rd m).payload ((px c : Thread nD τ), SemLoc.reg barS) 0 false := by
    rw [show ((px c : Thread nD τ), SemLoc.reg barS) = cell (px c) .bar from rfl, payload_cell]
    show _ ⊢ bigSep Finset.univ fun k : Fin 64 => oldPts m (px (px c)) (outX (px c) k).view.set
    rw [px_px]
  have hy : (bigSep Finset.univ fun k => oldPts m c (outY (py c) k).view.set) ⊢ (Rd m).payload ((py c : Thread nD τ), SemLoc.reg barS) 0 true := by
    rw [show ((py c : Thread nD τ), SemLoc.reg barS) = cell (py c) .bar from rfl, payload_cell]
    show _ ⊢ bigSep Finset.univ fun k : Fin 64 => oldPts m (py (py c)) (outY (py c) k).view.set
    rw [py_py]
  unfold O₀
  iapply (Rounds.wp_signal 𝒱₀ ER (Rd m) (c : Thread nD τ) none (dst := (px c : Thread nD τ)) (κ := K (px c, .bar)) (d := false)
    (by rw [show ((px c : Thread nD τ), SemLoc.reg barS) = cell (px c) .bar from rfl, duties_cell]; exact Finset.mem_univ _)
    ((amount_cell m (px c) .bar false).trans (by decide)) () (owed c 0 0 + tallyAt (cell (py c) .bar) () 1) rfl) $$ [HO HtX Hx]
  · isplitr; · iexact HIx
    isplitl [HO]; · iexact HO
    isplitl [HtX]; · iexact HtX
    isplitl [Hx]; · iapply hx; iexact Hx
    iexact Hrx
  iintro HO
  iapply (Rounds.wp_signal 𝒱₀ ER (Rd m) (c : Thread nD τ) none (dst := (py c : Thread nD τ)) (κ := K (py c, .bar)) (d := true)
    (by rw [show ((py c : Thread nD τ), SemLoc.reg barS) = cell (py c) .bar from rfl, duties_cell]; exact Finset.mem_univ _)
    ((amount_cell m (py c) .bar true).trans (by decide)) () (owed c 0 0) rfl) $$ [HO HtY Hy]
  · isplitr; · iexact HIy
    isplitl [HO]; · iexact HO
    isplitl [HtY]; · iexact HtY
    isplitl [Hy]; · iapply hy; iexact Hy
    iexact Hry
  iintro HO
  iapply (Rounds.wp_wait_rest_token 𝒱₀ ER (Rd m) (c : Thread nD τ) none (κ := K (c, .bar))
    (wpE_semWait_eq 𝒱₀ (c : Thread nD τ) none Set.univ) (Set.mem_univ _) () (O := owed c 0 0) (W := W) (R := 0) (m := 0) (T := ∅)
    (by rw [show ((c : Thread nD τ), SemLoc.reg barS) = cell c .bar from rfl, expect_bar]; decide)) $$ [Hcr HO Hat]
  · isplitr; · iexact HI
    isplitl [Hcr]; · iexact Hcr
    isplitl [HO]; · iexact HO
    isplitr; · iapply (mayWait_of c .bar _ (owed_level (.inl (Nat.lt_succ_self 1)))); iexact Hlev
    iexact Hat
  iintro ⟨HO, Hat, -, Hpay⟩
  have hr : (bigSep ((Rd m).duties ((c : Thread nD τ), SemLoc.reg barS) 0 \ ∅) fun d => (Rd m).payload ((c : Thread nD τ), SemLoc.reg barS) 0 d)
      ⊢ iprop((bigSep Finset.univ fun k => oldPts m (px c) (outX c k).view.set) ∗ bigSep Finset.univ fun k => oldPts m (py c) (outY c k).view.set) :=
    Entails.of_eq (rest_bar m c)
  ihave Hp := hr $$ Hpay
  icases Hp with ⟨Hx, Hy⟩
  iapply Hk
  isplitl [HO]; · iexists _; iexact HO
  isplitl [Hat]; · iexact Hat
  isplitl [Hx]; · iexact Hx
  iexact Hy

/-! ## All of the body -/

/-- Every semaphore whose round is taken comes back at zero. -/
theorem close (K : Dev nD × Ch → ℕ) (c : Dev nD) :
    iprop(ctx m K ∗ bigSep Finset.univ fun h : Ch => pos1 c h) ⊢ |={Set.univ}=> (zeros c : sProp 𝕄) := by
  have h := Rounds.cells_close ER (Rd m) (Finset.univ : Finset Ch) (fun h => cell c h) (fun h => K (c, h)) (Es := Set.univ)
    (fun _ _ => Set.mem_univ _) (fun _ _ h => h) (fun _ => 1) (fun h _ => duties_later m (cell c h))
  refine BI.Entails.trans ?_ h
  refine BI.bigSep_with_persistent fun h _ => ?_
  iintro ⟨#Hc, H⟩
  isplitr
  · iapply (inv_at m K c h); iexact Hc
  iexact H

/-- From what the launch deals a device, owing its signals and its arrivals, the body ends as wanted and owes nothing. -/
theorem body_sound (c : Dev nD) (Q : PUnit → sProp 𝕄) :
    iprop(Φ₀ m c ∗ (∃ W, owes (c : Thread nD τ) (O₀ c) W))
      ⊢ iprop(((Φ₁ m c ∗ ∃ W, owes (c : Thread nD τ) 0 W) -∗ Q ⟨⟩)
        -∗ goal c (cc0_body (F := F) (Memref.whole main_arg0) (Memref.isWhole_whole _) (Memref.whole main_v1) (Memref.isWhole_whole _)
        (Memref.whole cc0_scratch0) (Memref.isWhole_whole _) cc0_scratch1 cc0_scratch2 cc0_scratch3 cc0_scratch4
        cc0_scratch5 cc0_scratch6) Q) := by
  rw [body_eq]
  rw [goal, wp_deviceId]
  unfold Φ₀ start argPts resOld stage
  iintro ⟨⟨⟨⟨%K, #Hc, Hpos, Hbt, Hst⟩, Hcr, Hcs⟩, Hx, Hout, Hstage⟩, HO⟩ Hk
  iapply (wp_fupd frame (wpE (defs₀ (F := F)) 𝒱₀ (c : Thread nD τ) none) Set.univ _ Q)
  ihave Hx' := (x_parts m c).1 $$ Hx
  icases Hx' with ⟨⟨Hxs, Hxr⟩, Hxl⟩
  ihave Hout' := (Entails.of_eq (out_parts c (m ((c : Thread nD τ).loc main_v1)))) $$ Hout
  icases Hout' with ⟨HoX, HoY, HoL⟩
  ihave Hslots := (stage_split c) $$ Hstage
  ihave Hpos' := (Entails.of_eq (bigSep_ch fun h => (pos0 c h : sProp 𝕄))) $$ Hpos
  icases Hpos' with ⟨Hbar, Hpos⟩
  iapply (handshake m K c (runSteps c steps) fun a => iprop(|={Set.univ}=> Q a)) $$ [HO Hbar Hbt Hcr HoX HoY]
  · isplitr; · iexact Hc
    isplitl [HO]; · iexact HO
    isplitl [Hbar]; · iexact Hbar
    isplitl [Hbt]; · iexact Hbt
    isplitl [Hcr]; · iexact Hcr
    unfold oldPts
    isplitl [HoX] <;> iassumption
  iintro ⟨HO, Hbar, HoX, HoY⟩
  iapply (run_sound m K c (fun a => iprop(|={Set.univ}=> Q a)) steps St.init St.final leads_steps) $$ [HO Hpos Hst Hcs Hxs Hxl HoX HoY HoL Hslots]
  · isplitr; · iexact Hc
    iapply (res_init m c)
    isplitl [HO]; · iexact HO
    isplitl [Hpos]; · iexact Hpos
    isplitl [Hst]; · iexact Hst
    isplitl [Hcs]; · iexact Hcs
    isplitl [Hxs]; · iexact Hxs
    isplitl [Hxl]; · iexact Hxl
    isplitl [HoX]; · iexact HoX
    isplitl [HoY]; · iexact HoY
    isplitl [HoL]; · unfold oldPts; iexact HoL
    iexact Hslots
  iintro H
  ihave H' := (res_final m c) $$ H
  icases H' with ⟨HO, Hpos, Hxs, Hxl, Hnew, Hslots⟩
  ihave Hp := (Entails.of_eq (bigSep_ch fun h => (pos1 c h : sProp 𝕄)).symm) $$ [Hbar Hpos]
  · isplitl [Hbar] <;> iassumption
  imod (close m K c) $$ [Hp] with Hz
  · isplitr; · iexact Hc
    iexact Hp
  imodintro
  iapply Hk
  isplitr [HO]
  · unfold Φ₁ argPts resNew stage newPts
    isplitl [Hxs Hxr Hxl]
    · iapply (x_parts m c).2
      isplitr [Hxl]; · isplitl [Hxs] <;> iassumption
      iexact Hxl
    isplitl [Hnew]
    · iapply (Entails.of_eq (out_parts c (outAt m c)).symm); iexact Hnew
    isplitl [Hslots]; · iapply (stage_join m c); iexact Hslots
    iexact Hz
  iexact HO

end Cert.Gather

end
-- ==== Proof.Ghost.lean ====
/-
# The ghost resources the launch deals

Each device's semaphores start at zero. The launch puts each under the schedule, tells every device of all of them, and
deals each device the rights to signal that it uses.
-/
module

public import proofs.«01_k».proof.Proof.Body
public import proofs.«01_k».proof.Proof.Gen.KernelIdeal.Launch
public import Idealize.ShloMosaic.Lib.Pipeline.Launch

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A kernel's own semaphores: all but the barrier. -/
abbrev Own : Type := Fin 64 ⊕ Fin 64 ⊕ Fin 64 ⊕ Fin 64 ⊕ Fin 8 ⊕ Fin 8
/-- The kernel's own semaphore for a purpose. -/
def osem (k : Own) : SemLoc sig := semOf (.inr k)

/-- Every transfer semaphore belongs to the kernel's scope. -/
theorem dma_scoped : ∀ q : Fin 272, (SemLoc.dma q : SemLoc sig).isScoped .tc = true := by decide +kernel

/-- The own semaphores are in scope, distinct, and no staging semaphores. -/
theorem ownSemFacts : Pipeline.OwnSemFacts cfg0.spec osem where
  isScoped k := by rcases k with k | k | k | k | k | k <;> exact dma_scoped _
  inj _ _ h := Sum.inr_injective (semOf_injective h)
  disj _ w := w.elim0

/-! ## The cells and the rights to signal -/

/-- Every device's semaphores. -/
def cellAt : Dev nD × Ch ↪ GSem nD τ sig := ⟨fun x => cell x.1 x.2, fun x y h => Prod.ext (cell_inj h).1 (cell_inj h).2⟩
/-- The set of all devices' semaphores. -/
def cells : Finset (GSem nD τ sig) := Finset.univ.map cellAt

/-- The rights: one for every semaphore, and a second one for a barrier. -/
def rightAt : Dev nD × (Ch ⊕ Unit) ↪ GSem nD τ sig × ℕ × Bool where
  toFun x := match x.2 with
    | .inl h => (cell x.1 h, 0, false)
    | .inr _ => (cell x.1 .bar, 0, true)
  inj' := by
    rintro ⟨c, h | u⟩ ⟨d, h' | u'⟩ e
    · obtain ⟨e₁, e₂⟩ : c = d ∧ h = h' := cell_inj (congrArg Prod.fst e)
      rw [e₁, e₂]
    · exact absurd (congrArg (fun x : GSem nD τ sig × ℕ × Bool => x.2.2) e) Bool.false_ne_true
    · exact absurd (congrArg (fun x : GSem nD τ sig × ℕ × Bool => x.2.2) e).symm Bool.false_ne_true
    · have e₁ : c = d := (cell_inj (congrArg Prod.fst e)).1
      rw [e₁]
/-- The set of all rights to signal. -/
def rights : Finset (GSem nD τ sig × ℕ × Bool) := Finset.univ.map rightAt

/-- The resources at the launch: the library's and the schedule's. -/
def u₀ : UU :=
  (initOf (Pipeline.cells cfgs cellOf_inj) (Pipeline.launchToks cfgs cellOf_inj), initOf cells rights)

/-- The rights to signal a device's own semaphores. -/
def toks (c : Dev nD) : sProp 𝕄 :=
  iprop((bigSep Finset.univ fun h : Ch => tok c h) ∗ dutyTok ER (cell c .bar) 0 true)

/-- What is dealt to a device at first, and after the devices have shared it out. -/
def G (c : Dev nD) : sProp 𝕄 :=
  iprop((bigSep Finset.univ fun h : Ch => roundState ER (Rd m) (cell c h) 0)
    ∗ ((bigSep Finset.univ fun h : Ch => pos0 c h) ∗ bigSep Finset.univ fun h : Ch => reached ER (cell c h) 0) ∗ toks c)

/-- Every semaphore follows the schedule, and its round is open. -/
def known (K : Dev nD × Ch → ℕ) : sProp 𝕄 :=
  iprop((bigSep Finset.univ fun x : Dev nD × Ch => cellInv ER (Rd m) (K x) (cell x.1 x.2))
    ∗ bigSep Finset.univ fun x : Dev nD × Ch => reached ER (cell x.1 x.2) 0)

omit [FloatOps F] in
instance known_persistent (K : Dev nD × Ch → ℕ) : BI.Persistent (known (F := F) m K) := by unfold known; infer_instance

/-- What is dealt to a device after the devices have shared out their rights: all it knows, its positions, and the rights
    that it uses. -/
def G' (c : Dev nD) : sProp 𝕄 :=
  iprop(∃ K, known m K ∗ (bigSep Finset.univ fun h : Ch => pos0 c h) ∗ barToks c ∗ sendToks c)

omit [FloatOps F] in
/-- A family over all semaphores, device by device. -/
theorem over_cells (Φ : GSem nD τ sig → sProp 𝕄) :
    bigSep cells Φ = bigSep Finset.univ fun c : Dev nD => bigSep Finset.univ fun h : Ch => Φ (cell c h) := by
  unfold cells; rw [bigSep_map, bigSep_univ_prod]; rfl
omit [FloatOps F] in
/-- The rights, device by device. -/
theorem over_rights : bigSep rights (fun x => (dutyTok ER x.1 x.2.1 x.2.2 : sProp 𝕄)) = bigSep Finset.univ fun c : Dev nD => toks c := by
  unfold rights; rw [bigSep_map, bigSep_univ_prod]
  exact bigSep_congr fun c _ => by unfold toks; rw [bigSep_univ_sum, Finset.univ_unique (α := Unit), bigSep_singleton]; rfl

omit [FloatOps F] in
/-- The launch pays for all of it. -/
theorem fund : BI.own (ER (initOf cells rights)) ⊢ (|==> bigSep Finset.univ (G m) : sProp 𝕄) := by
  iintro HX
  imod (Rounds.fund ER (Rd m) cells rights) $$ HX with ⟨Hst, Hr, Hat, Htok⟩
  imodintro
  ihave Hst' := (Entails.of_eq (over_cells fun g => roundState ER (Rd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_rights) $$ Htok
  unfold G; rw [bigSep_sep', bigSep_sep', bigSep_sep']
  isplitl [Hst']; · iexact Hst'
  isplitl [Hat' Hr']
  · isplitl [Hat'] <;> iassumption
  iexact Htok'

/-! ## Semaphores at zero go under the schedule -/

omit [FloatOps F] in
/-- The barrier is the one semaphore outside the kernel's scope. -/
theorem unscoped_eq (c : Dev nD) : (unscopedSems0 c : sProp 𝕄) = semVal (cell c .bar) 0 := by
  unfold unscopedSems0; rw [bigSep_eq_bigSepL_of_eq [SemLoc.reg barS] (by decide +kernel) (by decide)]; rfl

omit [FloatOps F] in
/-- All semaphores of a device are the barrier and the kernel's own. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros; rw [unscoped_eq, bigSep_univ_sum, Finset.univ_unique (α := Unit), bigSep_singleton]; rfl

omit [FloatOps F] in
/-- A device's semaphores, at zero, go under the schedule. -/
theorem dev_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun h : Ch => iprop(∃ κ : ℕ, cellInv ER (Rd m) κ (cell c h)))
          ∗ ((bigSep Finset.univ fun h : Ch => pos0 c h) ∗ bigSep Finset.univ fun h : Ch => reached ER (cell c h) 0) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun h : Ch => roundState ER (Rd m) (cell c h) 0)
      ⊢ (|={Set.univ}=> bigSep Finset.univ fun h : Ch => iprop(∃ κ : ℕ, cellInv ER (Rd m) κ (cell c h)) : sProp 𝕄) from by
        unfold zeros
        rw [← bigSep_sep']
        exact (bigSep_mono fun h _ => (Rounds.body_intro ER (Rd m) (cell c h)).trans inv_alloc).trans (bigSep_fupd _ _)) $$ [Hv Hst] with Hinv
  · isplitl [Hv] <;> iassumption
  imodintro
  isplitl [Hinv]; · iexact Hinv
  isplitl [Hat]; · iexact Hat
  iexact Htok

/-! ## Sharing out -/

omit [FloatOps F] in
/-- The rights a device uses: its own semaphores' for what it reads and copies, its neighbours' for what it sends them. -/
theorem toks_dealt : (bigSep Finset.univ fun c : Dev nD => (toks c : sProp 𝕄))
    ⊢ iprop((bigSep Finset.univ fun c : Dev nD => barToks c) ∗ bigSep Finset.univ fun c : Dev nD => sendToks c) := by
  have h (c : Dev nD) : (toks c : sProp 𝕄) = iprop((tok c .bar ∗ (bigSep Finset.univ fun k => tok c (.sx k)) ∗ (bigSep Finset.univ fun k => tok c (.rx k))
      ∗ (bigSep Finset.univ fun k => tok c (.sy k)) ∗ (bigSep Finset.univ fun k => tok c (.ry k))
      ∗ (bigSep Finset.univ fun j => tok c (.ld j)) ∗ bigSep Finset.univ fun j => tok c (.st j)) ∗ dutyTok ER (cell c .bar) 0 true) := by
    unfold toks; rw [bigSep_ch]
  rw [bigSep_congr fun c _ => h c]
  unfold barToks sendToks
  simp only [bigSep_sep']
  rw [bigSep_univ_equiv flipX (fun c : Dev nD => (tok c .bar : sProp 𝕄)),
    bigSep_univ_equiv flipY (fun c : Dev nD => (dutyTok ER (cell c .bar) 0 true : sProp 𝕄)),
    bigSep_univ_equiv flipX (fun c : Dev nD => (bigSep Finset.univ fun k => tok c (.rx k) : sProp 𝕄)),
    bigSep_univ_equiv flipY (fun c : Dev nD => (bigSep Finset.univ fun k => tok c (.ry k) : sProp 𝕄))]
  iintro ⟨⟨Hb, Hsx, Hrx, Hsy, Hry, Hld, Hst⟩, Hb'⟩
  isplitl [Hb Hb']
  · isplitl [Hb]; · iexact Hb
    iexact Hb'
  isplitl [Hsx]; · iexact Hsx
  isplitl [Hrx]; · iexact Hrx
  isplitl [Hsy]; · iexact Hsy
  isplitl [Hry]; · iexact Hry
  isplitl [Hld] <;> iassumption

omit [FloatOps F] in
/-- What all know, with a device's positions and rights, is what is dealt to it. -/
theorem deal (K : Dev nD × Ch → ℕ) (c : Dev nD) :
    iprop(known m K ∗ (bigSep Finset.univ fun h : Ch => pos0 c h) ∗ barToks c ∗ sendToks c) ⊢ G' m c := by
  unfold G'
  iintro H
  iexists K
  iexact H

omit [FloatOps F] in
/-- All devices together, with their semaphores under the schedule, have what is to be dealt to each. -/
theorem regroup :
    (bigSep Finset.univ fun c : Dev nD => iprop((bigSep Finset.univ fun h : Ch => iprop(∃ κ : ℕ, cellInv ER (Rd m) κ (cell c h)))
          ∗ ((bigSep Finset.univ fun h : Ch => pos0 c h) ∗ bigSep Finset.univ fun h : Ch => reached ER (cell c h) 0) ∗ toks c) : sProp 𝕄)
      ⊢ bigSep Finset.univ (G' m) := by
  rw [bigSep_sep', bigSep_sep', bigSep_sep',
    ← bigSep_univ_prod (fun x : Dev nD × Ch => iprop(∃ κ : ℕ, cellInv ER (Rd m) κ (cell x.1 x.2))),
    ← bigSep_univ_prod (fun x : Dev nD × Ch => (reached ER (cell x.1 x.2) 0 : sProp 𝕄))]
  iintro ⟨HI, ⟨Hat, #HR⟩, Htok⟩
  ihave HK := (BI.bigSep_exists_pi Finset.univ (fun (x : Dev nD × Ch) (κ : ℕ) => (cellInv ER (Rd m) κ (cell x.1 x.2) : sProp 𝕄))) $$ HI
  icases HK with ⟨%K, #HI⟩
  ihave Htk := (toks_dealt (F := F)) $$ Htok
  icases Htk with ⟨Hb, Hs⟩
  iapply (BI.bigSep_with_persistent (R := known m K) fun c _ => deal m K c)
  isplitr
  · unfold known; isplitl; · iexact HI
    iexact HR
  rw [bigSep_sep', bigSep_sep']
  isplitl [Hat]; · iexact Hat
  isplitl [Hb] <;> iassumption

omit [FloatOps F] in
/-- All devices' semaphores go under the schedule at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (regroup m))

end Cert.Gather

end
-- ==== Proof.Run.lean ====
/-
# The run

The credit each device starts with is what the others owe it. With that and the body, every execution of the kernel ends,
with the arguments as they were, the results as they are to be and the semaphores at zero.
-/
module

public import proofs.«01_k».proof.Proof.Ghost
public import Idealize.ShloMosaic.Lib.Pipeline.Quiescent

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The launch credit -/

/-- A debt to one semaphore of device `a` is read at the same semaphore of `b` as itself if `b` is `a`, and as nothing otherwise. -/
theorem at_same (a b : Dev nD) (h : Ch) (n : ℕ) : (tallyAt (cell a h) () n : CellTallies nD τ sig Unit) (cell b h) () = if b = a then n else 0 := by
  rw [tallyAt_apply]
  by_cases e : b = a
  · subst e; rw [if_pos ⟨rfl, rfl⟩, if_pos rfl]
  · rw [if_neg (fun e' => e (cell_inj e'.1).1), if_neg e]
/-- A debt to a semaphore is nothing at a semaphore for another purpose. -/
theorem at_other (a b : Dev nD) {h h' : Ch} (e : h' ≠ h) (n : ℕ) : (tallyAt (cell a h) () n : CellTallies nD τ sig Unit) (cell b h') () = 0 := by
  rw [tallyAt_ne_cell (fun e' => e (cell_inj e').2), Finsupp.zero_apply]

/-- Every device owes its partner `n`: together they owe any device `n`. -/
theorem sum_partner (e : Dev nD ≃ Dev nD) (c : Dev nD) (n : ℕ) : (∑ d, if c = e d then n else 0) = n := by
  rw [Equiv.sum_comp e (fun d => if c = d then n else 0), Finset.sum_ite_eq, if_pos (Finset.mem_univ c)]

/-- What the arrivals along the first axis owe a semaphore, chunk by chunk. -/
theorem owedX_at (d c : Dev nD) (h : Ch) : owedX d 0 (cell c h) () = ∑ k : Fin 64, (tallyAt (cell (px d) (.rx k)) () N64 : CellTallies nD τ sig Unit) (cell c h) () := by
  unfold owedX
  rw [Finset.sum_apply, Finsupp.finset_sum_apply]
  exact Finset.sum_congr rfl fun k _ => by rw [if_neg (Nat.not_lt_zero _)]
/-- What the arrivals along the second axis owe a semaphore, chunk by chunk. -/
theorem owedY_at (d c : Dev nD) (h : Ch) : owedY d 0 (cell c h) () = ∑ k : Fin 64, (tallyAt (cell (py d) (.ry k)) () N64 : CellTallies nD τ sig Unit) (cell c h) () := by
  unfold owedY
  rw [Finset.sum_apply, Finsupp.finset_sum_apply]
  exact Finset.sum_congr rfl fun k _ => by rw [if_neg (Nat.not_lt_zero _)]

/-- What a device owes a semaphore at the start, part by part. -/
theorem O₀_at (d c : Dev nD) (h : Ch) : O₀ d (cell c h) () = owedX d 0 (cell c h) () + owedY d 0 (cell c h) ()
    + (tallyAt (cell (py d) .bar) () 1 : CellTallies nD τ sig Unit) (cell c h) () + (tallyAt (cell (px d) .bar) () 1 : CellTallies nD τ sig Unit) (cell c h) () := by
  unfold O₀ owed
  rw [Pi.add_apply, Finsupp.add_apply, Pi.add_apply, Finsupp.add_apply, Pi.add_apply, Finsupp.add_apply]

/-- Device `d` owes the barrier of `c` one signal for each axis along which `c` is the neighbour of `d`. -/
theorem due_bar (d c : Dev nD) : O₀ d (cell c .bar) () = (if c = flipY d then 1 else 0) + if c = flipX d then 1 else 0 := by
  rw [O₀_at, owedX_at, owedY_at, Finset.sum_eq_zero fun k _ => at_other _ _ Sum.inl_ne_inr _, Finset.sum_eq_zero fun k _ => at_other _ _ Sum.inl_ne_inr _,
    at_same, at_same, Nat.zero_add, Nat.zero_add]
  rfl
/-- Device `d` owes `c` its arrivals along the first axis if `c` is the neighbour of `d` on that axis. -/
theorem due_rx (d c : Dev nD) (k : Fin 64) : O₀ d (cell c (.rx k)) () = if c = flipX d then N64 else 0 := by
  rw [O₀_at, owedX_at, owedY_at, Finset.sum_eq_single k (fun k' _ e => at_other _ _ (fun h => e (Sum.inl_injective (Sum.inr_injective (Sum.inr_injective h))).symm) _)
      (fun h => absurd (Finset.mem_univ k) h),
    Finset.sum_eq_zero fun k' _ => at_other _ _ (fun h => Sum.inl_ne_inr (Sum.inr_injective (Sum.inr_injective h))) _,
    at_other _ _ Sum.inr_ne_inl, at_other _ _ Sum.inr_ne_inl, at_same]
  rfl
/-- Device `d` owes `c` its arrivals along the second axis if `c` is the neighbour of `d` on that axis. -/
theorem due_ry (d c : Dev nD) (k : Fin 64) : O₀ d (cell c (.ry k)) () = if c = flipY d then N64 else 0 := by
  rw [O₀_at, owedX_at, owedY_at,
    Finset.sum_eq_zero fun k' _ => at_other _ _ (fun h => Sum.inr_ne_inl (Sum.inr_injective (Sum.inr_injective h))) _,
    Finset.sum_eq_single k (fun k' _ e => at_other _ _ (fun h => e (Sum.inl_injective (Sum.inr_injective (Sum.inr_injective (Sum.inr_injective (Sum.inr_injective h))))).symm) _)
      (fun h => absurd (Finset.mem_univ k) h),
    at_other _ _ Sum.inr_ne_inl, at_other _ _ Sum.inr_ne_inl, at_same, Nat.zero_add]
  rfl

/-- What all devices owe a semaphore is the credit its owner starts with. -/
theorem launch_eq (c : Dev nD) (h : Ch) (n : ℕ) (hn : (∑ d, O₀ d (cell c h) ()) = n) :
    tallyOn (cell c h) (launchCredit (Pipeline.owing O₀) 0 (cell c h)) = (tallyAt (cell c h) () n : CellTallies nD τ sig Unit) := by
  unfold tallyAt; refine congrArg _ (Finsupp.ext fun u => ?_); cases u
  rw [Pipeline.launchCredit_owing, Finsupp.single_eq_same, hn]

omit [FloatOps F] in
/-- A device starts with credit for two signals on its barrier and for every arrival. -/
theorem creds (c : Dev nD) : (Pipeline.launchCred O₀ c : sProp 𝕄) ⊢ iprop(cred (tallyAt (cell c .bar) () 2) ∗ credits c) := by
  have hb : (∑ d, O₀ d (cell c .bar) ()) = 2 := by
    rw [Finset.sum_congr rfl fun d _ => due_bar d c, Finset.sum_add_distrib, sum_partner, sum_partner]
  have hx (k : Fin 64) : (∑ d, O₀ d (cell c (.rx k)) ()) = N64 := by rw [Finset.sum_congr rfl fun d _ => due_rx d c k, sum_partner]
  have hy (k : Fin 64) : (∑ d, O₀ d (cell c (.ry k)) ()) = N64 := by rw [Finset.sum_congr rfl fun d _ => due_ry d c k, sum_partner]
  unfold Pipeline.launchCred credits
  rw [bigSep_univ_equiv semEquiv, bigSep_ch]
  iintro ⟨Hb, -, Hx, -, Hy, -, -⟩
  isplitl [Hb]
  · iapply (Entails.of_eq (congrArg cred (launch_eq c .bar 2 hb))); iexact Hb
  isplitl [Hx]
  · iapply (Entails.of_eq (bigSep_congr fun k _ => congrArg cred (launch_eq c (.rx k) N64 (hx k)))); iexact Hx
  · iapply (Entails.of_eq (bigSep_congr fun k _ => congrArg cred (launch_eq c (.ry k) N64 (hy k)))); iexact Hy

/-! ## The kernel's one point -/

/-- The kernel has one point and no windows: before it and after it, and what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A family over no windows is empty. -/
theorem no_windows (Ψ : Fin cfg0.W → sProp 𝕄) : bigSep Finset.univ Ψ = iprop(emp) := by
  rw [show (Finset.univ : Finset (Fin cfg0.W)) = ∅ from rfl, bigSep_empty]
  rfl

/-- The program of the kernel's one point is the body. -/
theorem point_body : (defs₀ (F := F)) .tc cfg0.body (cfg0.bodyArgs t0_0 (cfg0.slots t0_0))
    = cc0_body (F := F) (Memref.whole main_arg0) (Memref.isWhole_whole _) (Memref.whole main_v1) (Memref.isWhole_whole _)
        (Memref.whole cc0_scratch0) (Memref.isWhole_whole _) cc0_scratch1 cc0_scratch2 cc0_scratch3 cc0_scratch4
        cc0_scratch5 cc0_scratch6 := by
  unfold defs₀ Defs.onTc
  rfl

/-- The body does what the launch asks of the one point. -/
theorem body_obligation (c : Dev nD) : BodyObligation (dats m 0 c) defs₀ 𝒱₀ () Set.univ := fun t => by
  rw [show t = t0_0 from fin_N0 t, no_windows, no_windows, point_body]
  rw [show (dats m 0 c).Φ t0_0.castSucc = Φ₀ m c from rfl, show (dats m 0 c).Φ t0_0.succ = Φ₁ m c from rfl]
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (body_sound m c) $$ [HΦ HO]
  · isplitl [HΦ]; · iexact HΦ
    iexists W; iexact HO
  iintro ⟨HΦ, ⟨%W', HO⟩⟩
  isplitl [HΦ]; · iexact HΦ
  isplitl [HO]
  · iexists W'
    isplitr; · ipureintro; exact fun _ _ => Or.inl trivial
    iexact HO
  iempintro

/-! ## From the launch to the body and back -/

/-- What the launch leaves a device is what the body starts from, but for the stage. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ argPts m c ∗ resOld m c) ∗ emp) := by
  rw [Pipeline.unscopedRestP_none, unscopedRest0_eq]
  unfold G' start ctx known
  iintro ⟨⟨Hx, Hr⟩, #Hlev, Hcr, -, ⟨%K, ⟨#HI, #HR⟩, Hp, Hb, Hs⟩⟩
  ihave Hc := (creds (F := F) c) $$ Hcr
  icases Hc with ⟨H2, Hcr⟩
  imodintro
  isplitl
  · isplitr [Hx Hr]
    · isplitr [H2 Hcr]
      · iexists K
        isplitr
        · isplitr; · iexact HI
          isplitr; · iexact HR
          iexact Hlev
        isplitl [Hp]; · iexact Hp
        isplitl [Hb] <;> iassumption
      isplitl [H2] <;> iassumption
    unfold argPts resOld
    isplitl [Hx] <;> iassumption
  · iempintro

/-- With the stage it is all that the body starts from. -/
theorem enter (c : Dev nD) :
    iprop((start m c ∗ argPts m c ∗ resOld m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ stage
  iintro ⟨⟨Hs, Hx, Hr⟩, -, Hst⟩
  isplitl [Hs]; · iexact Hs
  isplitl [Hx]; · iexact Hx
  isplitl [Hr] <;> iassumption

/-- What is left of a device at the end, besides its stage and the kernel's own semaphores. -/
def ending (c : Dev nD) : sProp 𝕄 := iprop(argPts m c ∗ resNew m c ∗ unscopedSems0 c)

/-- After the body the own semaphores and the stage go back. -/
theorem leave (c : Dev nD) :
    (dats m 0 c).Φ (Fin.last cfg0.N) ⊢ iprop(ending m c ∗ Pipeline.ownSems0 osem c ∗ Pipeline.scopedRest cfg0.spec c) := by
  rw [show (dats m 0 c).Φ (Fin.last cfg0.N) = Φ₁ m c from rfl, scopedRest0_eq]
  unfold Φ₁ ending stage
  rw [zeros_eq]
  iintro ⟨Hx, Hr, Hst, Hu, Ho⟩
  isplitl [Hx Hr Hu]
  · isplitl [Hx]; · iexact Hx
    isplitl [Hr] <;> iassumption
  isplitl [Ho] <;> iassumption

/-- What is read off a device at the end. -/
def Fact (c : Dev nD) (s : MemSt nD τ sig (Elt F)) : Prop :=
  (s.mem ((c : Thread nD τ).loc main_v1) = outAt m c ∧ s.mem ((c : Thread nD τ).loc main_arg0) = m ((c : Thread nD τ).loc main_arg0))
    ∧ ∀ sm : SemLoc sig, sm.isScoped .tc = false → s.sem ((c.tc : Thread nD τ), sm) = 0

/-- What a device holds at the end fixes its memory and its semaphores. -/
theorem read_off (c : Dev nD) (s : Phys nD τ sig (Elt F)) :
    iprop(ending m c ∗ emp ∗ SI s) ⊢ (|={Set.univ}=> iprop(⌜Fact m c s.mem⌝ ∗ SI s) : sProp 𝕄) := by
  unfold ending argPts resNew
  iintro ⟨⟨Hx, Hr, Hu⟩, -, HSI⟩
  ihave %hx := (SI_pointsTo_agree (st := s) (ℓ := (c : Thread nD τ).loc main_arg0) (I := Finset.univ) (q := fullShare) (f := m ((c : Thread nD τ).loc main_arg0))) $$ [HSI Hx]
  · isplitl [HSI] <;> iassumption
  ihave %hr := (SI_pointsTo_agree (st := s) (ℓ := (c : Thread nD τ).loc main_v1) (I := Finset.univ) (q := fullShare) (f := outAt m c)) $$ [HSI Hr]
  · isplitl [HSI] <;> iassumption
  ihave %hu := (tcUnscoped_read c s) $$ [Hu HSI]
  · isplitl [Hu] <;> iassumption
  imodintro
  isplitr
  · ipureintro
    exact ⟨⟨funext fun i => hr i (Finset.mem_univ i), funext fun i => hx i (Finset.mem_univ i)⟩, hu⟩
  iexact HSI

/-! ## The run -/

/-- Every execution on the four devices ends, nothing faulting, with each result as it is to be, each argument as it was and
    all semaphores at zero. -/
theorem run_main (ρ : Dev nD → PrngReg) : θ_run defs (onTc (τ := τ) (main (F := F))) ⟨m, fun _ => 0, ρ⟩
    (fun r => (∀ c : Dev nD, r.2.mem ((c : Thread nD τ).loc main_v1) = outAt m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := fun c => iprop(start m c ∗ argPts m c ∗ resOld m c)) (Y := ending m) (Z := fun _ => iprop(emp))
    (hX := start_intro m ρ) (hin := enter m) (hout := leave m)
    (QY := Fact m) (hY := read_off m)
    (hQ := fun _ h hs => ⟨fun c => (h c).2.2.1, sem_eq_zero hs fun c => (h c).2.2.2⟩)

end Cert.Gather

end
-- ==== Proof.Value.lean ====
/-
# The gathered array

If every device's argument is its block of one whole array, then what the results are to hold is that array.
-/
module

public import proofs.«01_k».proof.Proof.Regions
public import Idealize.ShloMosaic.Lib.Layout

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]

variable (m : (ℓ : Loc nD τ sig) → Buf (Elt F) ℓ)

/-- Device `d` holds half `d / 2` of the rows. -/
theorem block_half (d : Dev nD) : Layout.meshLin [2, 2] d.val [0] = d.val / 2 := by
  have h := dev_lt d
  show d.val / 2 % 2 * 1 + 0 = d.val / 2
  omega

/-- A row comes from a device that holds its half. -/
theorem origin_half (d : Dev nD) (r : Fin 16384) : (origin d r).val / 2 = r.val / 8192 := by
  have h := r.isLt
  show (2 * (r.val / 8192) + (if r.val / 8192 = d.val / 2 then d.val % 2 else r.val % 8192 / 4096)) / 2 = r.val / 8192
  split <;> omega

omit [FloatOps F] in
/-- The results are to hold the whole array. -/
theorem outAt_whole (v : S16384x1024.Idx → Elt F .f32)
    (h : ∀ c : Dev nD, m ((c : Thread nD τ).loc main_arg0) = Layout.blockN ⟨2, ![8192, 1024]⟩ ⟨2, ![16384, 1024]⟩ (Layout.meshBlock [2, 2] ![[0], []] c) v)
    (d : Dev nD) : outAt m d = v := by
  refine funext fun (i : S16384x1024.Idx) => ?_
  have hr : (i 0).val < 16384 := (i 0).isLt
  have ho := origin_half d (i 0)
  unfold outAt
  rw [h, Layout.blockN_apply]
  refine congrArg v (funext fun a => Fin.ext ?_)
  rw [Layout.TilesN.idx_val]
  fin_cases a
  · show Layout.meshLin [2, 2] (origin d (i 0)).val [0] * 8192 + (i 0).val % 8192 = (i 0).val
    rw [block_half]
    omega
  · show 0 * 1024 + (i 1).val = (i 1).val
    omega

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Identity
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed: every execution ends, its arguments and its semaphores as they were. -/
theorem frame_kernel : Cert.quiescent_Kernel := fun m ρ _ =>
  (θ_run Cert.KernelIdeal.defs _ _).mono (fun _ h => ⟨fun c => (h.1 c).2, h.2⟩) (Cert.Gather.run_main (F := Bits) m ρ)

/-- The same of the kernel on exact numbers. -/
theorem frame_ideal : Cert.quiescent_KernelIdeal := fun m ρ _ =>
  (θ_run Cert.KernelIdeal.defs _ _).mono (fun _ h => ⟨fun c => (h.1 c).2, h.2⟩) (Cert.Gather.run_main (F := Ideal) m ρ)

/-- The same of the reference. -/
theorem frame_reference : Cert.quiescent_ReferenceIdeal := fun m ρ _ => Cert.Gather.Identity.run m ρ

/-- Every device's result ends as the reference's whole array. -/
theorem algebraic : Cert.algebraic_KernelIdeal_ReferenceIdeal := fun m ρ m' ρ' _ h =>
  ⟨_, (θ_run Cert.KernelIdeal.defs _ _).mono (fun _ hr c => ⟨(hr.1 c).1.trans (Cert.Gather.outAt_whole m _ h c), (hr.1 c).2⟩)
      (Cert.Gather.run_main (F := Ideal) m ρ),
    (θ_run Cert.ReferenceIdeal.defs _ _).mono (fun _ hr => ⟨hr.1 0, hr.1 0⟩) (Cert.Gather.Identity.run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
